-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 256]⟩ ⟨2, ![768, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S128x128 : Shape := ⟨2, ![128, 128]⟩
abbrev S768x256 : Shape := ⟨2, ![768, 256]⟩
abbrev S_ : Shape := ⟨0, ![]⟩
abbrev S640x256 : Shape := ⟨2, ![640, 256]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  slices_S768x256_S640x256_0_0 : S768x256.Slices ![0, 0] S640x256
  bcast_S_S640x256 : S_.BroadcastsInDim S640x256 (![] : Fin 0 → Fin S640x256.rank)
  reducesTo_S640x256_S_d0_1 : S640x256.ReducesTo [0, 1] S_

variable [Facts]

def fn {F : FTy → Type} [FloatOps F] (main_arg0 : FVec F S128x128 .bf16) (main_arg1 : FVec F S768x256 .bf16) : IVec S_ 1 :=
  let main_v0 : FVec F S128x128 .bf16 := Host.absf main_arg0
  let main_cst : FVec F S_ .bf16 := constant S_ .bf16 0x7F80#16
  let main_v1 : FVec F S128x128 .bf16 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S640x256 .bf16 := (extractStridedSlice S640x256 ![0, 0] · slices_S768x256_S640x256_0_0) main_arg1
  let main_v5 : FVec F S640x256 .bf16 := Host.absf main_v4
  let main_cst_0 : FVec F S_ .bf16 := constant S_ .bf16 0x7F80#16
  let main_v6 : FVec F S640x256 .bf16 := broadcastInDim S640x256 ![] bcast_S_S640x256 main_cst_0
  let main_v7 : IVec S640x256 1 := cmpf .olt main_v5 main_v6
  let main_c_1 : IVec S_ 1 := constantI S_ 1 1#1
  let main_v8 : IVec S_ 1 := (fun x v => Host.reduce IntOp.andi x v reducesTo_S640x256_S_d0_1 h_S_) main_v7 main_c_1
  let main_v9 : IVec S_ 1 := andi main_v3 main_v8
  main_v9
-- ==== Pre_finite_ReferenceIdeal.lean ====
abbrev S128x128 : Shape := ⟨2, ![128, 128]⟩
abbrev S768x2048 : Shape := ⟨2, ![768, 2048]⟩
abbrev S_ : Shape := ⟨0, ![]⟩
abbrev S640x2048 : Shape := ⟨2, ![640, 2048]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  slices_S768x2048_S640x2048_0_0 : S768x2048.Slices ![0, 0] S640x2048
  bcast_S_S640x2048 : S_.BroadcastsInDim S640x2048 (![] : Fin 0 → Fin S640x2048.rank)
  reducesTo_S640x2048_S_d0_1 : S640x2048.ReducesTo [0, 1] S_

variable [Facts]

def fn {F : FTy → Type} [FloatOps F] (main_arg0 : FVec F S128x128 .bf16) (main_arg1 : FVec F S768x2048 .bf16) : IVec S_ 1 :=
  let main_v0 : FVec F S128x128 .bf16 := Host.absf main_arg0
  let main_cst : FVec F S_ .bf16 := constant S_ .bf16 0x7F80#16
  let main_v1 : FVec F S128x128 .bf16 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S640x2048 .bf16 := (extractStridedSlice S640x2048 ![0, 0] · slices_S768x2048_S640x2048_0_0) main_arg1
  let main_v5 : FVec F S640x2048 .bf16 := Host.absf main_v4
  let main_cst_0 : FVec F S_ .bf16 := constant S_ .bf16 0x7F80#16
  let main_v6 : FVec F S640x2048 .bf16 := broadcastInDim S640x2048 ![] bcast_S_S640x2048 main_cst_0
  let main_v7 : IVec S640x2048 1 := cmpf .olt main_v5 main_v6
  let main_c_1 : IVec S_ 1 := constantI S_ 1 1#1
  let main_v8 : IVec S_ 1 := (fun x v => Host.reduce IntOp.andi x v reducesTo_S640x2048_S_d0_1 h_S_) main_v7 main_c_1
  let main_v9 : IVec S_ 1 := andi main_v3 main_v8
  main_v9
-- ==== Kernel.lean ====
abbrev S128x128 : Shape := ⟨2, ![128, 128]⟩
abbrev S768x256 : Shape := ⟨2, ![768, 256]⟩
abbrev S3x128x128 : Shape := ⟨3, ![3, 128, 128]⟩
abbrev S21x128x128 : Shape := ⟨3, ![21, 128, 128]⟩
abbrev S21 : Shape := ⟨1, ![21]⟩
abbrev S7 : Shape := ⟨1, ![7]⟩
abbrev S_ : Shape := ⟨0, ![]⟩
abbrev S1 : Shape := ⟨1, ![1]⟩
abbrev S128x256 : Shape := ⟨2, ![128, 256]⟩
abbrev S1x128x128 : Shape := ⟨3, ![1, 128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x128, .bf16⟩
  | .hbm, ⟨1, _⟩ => ⟨S768x256, .bf16⟩
  | .hbm, ⟨2, _⟩ => ⟨S128x128, .f32⟩
  | .local _ .vmem, ⟨0, _⟩ => ⟨S128x128, .bf16⟩
  | .local _ .vmem, ⟨1, _⟩ => ⟨S768x256, .bf16⟩
  | .local _ .vmem, ⟨2, _⟩ => ⟨S3x128x128, .bf16⟩
  | .local _ .vmem, ⟨3, _⟩ => ⟨S21x128x128, .bf16⟩
  | .local _ .vmem, ⟨4, _⟩ => ⟨S128x128, .f32⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 8 45 bufScoped semScoped dmaSemScoped tileCredit tileCredit_eq_zero tileCredit_pos).withBarriers [(0, 7)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch5 : Ref sig .tc := ⟨.vmem, 4, rfl⟩
abbrev cc0_sem0_0 : DmaSem sig := 0
abbrev cc0_sem1_0 : DmaSem sig := 1
abbrev barrier0 : Sem sig := 7

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.muli v2 c1_i32_1
  let v5 : BitVec 32 := Scalar.addi c0_i32 v4
  v5.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.xori v2 c1_i32_3
  let c1_i32_6 : BitVec 32 := 1#32
  let v9 : BitVec 32 := Scalar.muli v6 c1_i32_6
  let v10 : BitVec 32 := Scalar.addi c0_i32_7 v9
  v10.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.xori v2 c2_i32
  let c1_i32_10 : BitVec 32 := 1#32
  let v14 : BitVec 32 := Scalar.muli v11 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.xori v2 c3_i32
  let c1_i32_14 : BitVec 32 := 1#32
  let v19 : BitVec 32 := Scalar.muli v16 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.xori v2 c4_i32
  let c1_i32_18 : BitVec 32 := 1#32
  let v24 : BitVec 32 := Scalar.muli v21 c1_i32_18
  let v25 : BitVec 32 := Scalar.addi c0_i32_19 v24
  v25.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v26 : BitVec 32 := Scalar.xori v2 c5_i32
  let c1_i32_22 : BitVec 32 := 1#32
  let v29 : BitVec 32 := Scalar.muli v26 c1_i32_22
  let v30 : BitVec 32 := Scalar.addi c0_i32_23 v29
  v30.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v31 : BitVec 32 := Scalar.xori v2 c6_i32
  let c1_i32_26 : BitVec 32 := 1#32
  let v34 : BitVec 32 := Scalar.muli v31 c1_i32_26
  let v35 : BitVec 32 := Scalar.addi c0_i32_27 v34
  v35.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v36 : BitVec 32 := Scalar.xori v2 c7_i32
  let c1_i32_30 : BitVec 32 := 1#32
  let v39 : BitVec 32 := Scalar.muli v36 c1_i32_30
  let v40 : BitVec 32 := Scalar.addi c0_i32_31 v39
  v40.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.xori v2 c1_i32_41
  let c1_i32_49 : BitVec 32 := 1#32
  let v59 : BitVec 32 := Scalar.muli v56 c1_i32_49
  let v60 : BitVec 32 := Scalar.addi c0_i32_50 v59
  v60.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v69 : BitVec 32 := Scalar.xori v2 c3_i32_55
  let c1_i32_63 : BitVec 32 := 1#32
  let v72 : BitVec 32 := Scalar.muli v69 c1_i32_63
  let v73 : BitVec 32 := Scalar.addi c0_i32_64 v72
  v73.toNat
def k0_dev11 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_69 : BitVec 32 := 4#32
  let v82 : BitVec 32 := Scalar.xori v2 c4_i32_69
  let c1_i32_77 : BitVec 32 := 1#32
  let v85 : BitVec 32 := Scalar.muli v82 c1_i32_77
  let v86 : BitVec 32 := Scalar.addi c0_i32_78 v85
  v86.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v95 : BitVec 32 := Scalar.xori v2 c2_i32_83
  let c1_i32_91 : BitVec 32 := 1#32
  let v98 : BitVec 32 := Scalar.muli v95 c1_i32_91
  let v99 : BitVec 32 := Scalar.addi c0_i32_92 v98
  v99.toNat
def k0_dev13 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_97 : BitVec 32 := 5#32
  let v108 : BitVec 32 := Scalar.xori v2 c5_i32_97
  let c1_i32_105 : BitVec 32 := 1#32
  let v111 : BitVec 32 := Scalar.muli v108 c1_i32_105
  let v112 : BitVec 32 := Scalar.addi c0_i32_106 v111
  v112.toNat
def k0_dev14 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_111 : BitVec 32 := 7#32
  let v121 : BitVec 32 := Scalar.xori v2 c7_i32_111
  let c1_i32_119 : BitVec 32 := 1#32
  let v124 : BitVec 32 := Scalar.muli v121 c1_i32_119
  let v125 : BitVec 32 := Scalar.addi c0_i32_120 v124
  v125.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_125 : BitVec 32 := 6#32
  let v134 : BitVec 32 := Scalar.xori v2 c6_i32_125
  let c1_i32_133 : BitVec 32 := 1#32
  let v137 : BitVec 32 := Scalar.muli v134 c1_i32_133
  let v138 : BitVec 32 := Scalar.addi c0_i32_134 v137
  v138.toNat
def k0_dev16 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_298 : BitVec 32 := 1#32
  let v289 : BitVec 32 := Scalar.xori v2 c1_i32_298
  let c1_i32_303 : BitVec 32 := 1#32
  let v290 : BitVec 32 := Scalar.muli v289 c1_i32_303
  let v291 : BitVec 32 := Scalar.addi c0_i32_304 v290
  v291.toNat
def k0_dev17 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_309 : BitVec 32 := 3#32
  let v300 : BitVec 32 := Scalar.xori v2 c3_i32_309
  let c1_i32_313 : BitVec 32 := 1#32
  let v301 : BitVec 32 := Scalar.muli v300 c1_i32_313
  let v302 : BitVec 32 := Scalar.addi c0_i32_314 v301
  v302.toNat
def k0_dev18 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_319 : BitVec 32 := 4#32
  let v311 : BitVec 32 := Scalar.xori v2 c4_i32_319
  let c1_i32_323 : BitVec 32 := 1#32
  let v312 : BitVec 32 := Scalar.muli v311 c1_i32_323
  let v313 : BitVec 32 := Scalar.addi c0_i32_324 v312
  v313.toNat
def k0_dev19 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_329 : BitVec 32 := 2#32
  let v322 : BitVec 32 := Scalar.xori v2 c2_i32_329
  let c1_i32_334 : BitVec 32 := 1#32
  let v323 : BitVec 32 := Scalar.muli v322 c1_i32_334
  let v324 : BitVec 32 := Scalar.addi c0_i32_335 v323
  v324.toNat
def k0_dev20 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_340 : BitVec 32 := 5#32
  let v333 : BitVec 32 := Scalar.xori v2 c5_i32_340
  let c1_i32_344 : BitVec 32 := 1#32
  let v334 : BitVec 32 := Scalar.muli v333 c1_i32_344
  let v335 : BitVec 32 := Scalar.addi c0_i32_345 v334
  v335.toNat
def k0_dev21 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_350 : BitVec 32 := 7#32
  let v344 : BitVec 32 := Scalar.xori v2 c7_i32_350
  let c1_i32_354 : BitVec 32 := 1#32
  let v345 : BitVec 32 := Scalar.muli v344 c1_i32_354
  let v346 : BitVec 32 := Scalar.addi c0_i32_355 v345
  v346.toNat
def k0_dev22 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_360 : BitVec 32 := 6#32
  let v355 : BitVec 32 := Scalar.xori v2 c6_i32_360
  let c1_i32_364 : BitVec 32 := 1#32
  let v356 : BitVec 32 := Scalar.muli v355 c1_i32_364
  let v357 : BitVec 32 := Scalar.addi c0_i32_365 v356
  v357.toNat
def k0_dev23 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_528 : BitVec 32 := 1#32
  let v508 : BitVec 32 := Scalar.xori v2 c1_i32_528
  let c1_i32_532 : BitVec 32 := 1#32
  let v509 : BitVec 32 := Scalar.muli v508 c1_i32_532
  let v510 : BitVec 32 := Scalar.addi c0_i32_533 v509
  v510.toNat
def k0_dev24 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_538 : BitVec 32 := 3#32
  let v519 : BitVec 32 := Scalar.xori v2 c3_i32_538
  let c1_i32_542 : BitVec 32 := 1#32
  let v520 : BitVec 32 := Scalar.muli v519 c1_i32_542
  let v521 : BitVec 32 := Scalar.addi c0_i32_543 v520
  v521.toNat
def k0_dev25 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_548 : BitVec 32 := 4#32
  let v530 : BitVec 32 := Scalar.xori v2 c4_i32_548
  let c1_i32_552 : BitVec 32 := 1#32
  let v531 : BitVec 32 := Scalar.muli v530 c1_i32_552
  let v532 : BitVec 32 := Scalar.addi c0_i32_553 v531
  v532.toNat
def k0_dev26 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_558 : BitVec 32 := 2#32
  let v541 : BitVec 32 := Scalar.xori v2 c2_i32_558
  let c1_i32_562 : BitVec 32 := 1#32
  let v542 : BitVec 32 := Scalar.muli v541 c1_i32_562
  let v543 : BitVec 32 := Scalar.addi c0_i32_563 v542
  v543.toNat
def k0_dev27 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_568 : BitVec 32 := 5#32
  let v552 : BitVec 32 := Scalar.xori v2 c5_i32_568
  let c1_i32_572 : BitVec 32 := 1#32
  let v553 : BitVec 32 := Scalar.muli v552 c1_i32_572
  let v554 : BitVec 32 := Scalar.addi c0_i32_573 v553
  v554.toNat
def k0_dev28 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_578 : BitVec 32 := 7#32
  let v563 : BitVec 32 := Scalar.xori v2 c7_i32_578
  let c1_i32_582 : BitVec 32 := 1#32
  let v564 : BitVec 32 := Scalar.muli v563 c1_i32_582
  let v565 : BitVec 32 := Scalar.addi c0_i32_583 v564
  v565.toNat
def k0_dev29 (d0 : Dev nD) : Nat :=
  let c0_i32_593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_588 : BitVec 32 := 6#32
  let v574 : BitVec 32 := Scalar.xori v2 c6_i32_588
  let c1_i32_592 : BitVec 32 := 1#32
  let v575 : BitVec 32 := Scalar.muli v574 c1_i32_592
  let v576 : BitVec 32 := Scalar.addi c0_i32_593 v575
  v576.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x128 : Shape := ⟨2, ![128, 128]⟩
abbrev S768x2048 : Shape := ⟨2, ![768, 2048]⟩
abbrev S128x2048 : Shape := ⟨2, ![128, 2048]⟩
abbrev S2048x128 : Shape := ⟨2, ![2048, 128]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S128x128, .bf16⟩
  | .hbm, ⟨1, _⟩ => ⟨S768x2048, .bf16⟩
  | .hbm, ⟨2, _⟩ => ⟨S128x2048, .bf16⟩
  | .hbm, ⟨3, _⟩ => ⟨S128x2048, .bf16⟩
  | .hbm, ⟨4, _⟩ => ⟨S128x2048, .bf16⟩
  | .hbm, ⟨5, _⟩ => ⟨S128x2048, .bf16⟩
  | .hbm, ⟨6, _⟩ => ⟨S2048x128, .bf16⟩
  | .hbm, ⟨7, _⟩ => ⟨S128x2048, .bf16⟩
  | .hbm, ⟨8, _⟩ => ⟨S2048x128, .bf16⟩
  | .hbm, ⟨9, _⟩ => ⟨S128x2048, .bf16⟩
  | .hbm, ⟨10, _⟩ => ⟨S2048x128, .bf16⟩
  | .hbm, ⟨11, _⟩ => ⟨S128x128, .f32⟩
  | .hbm, ⟨12, _⟩ => ⟨S128x2048, .f32⟩
  | .hbm, ⟨13, _⟩ => ⟨S128x2048, .f32⟩
  | .hbm, ⟨14, _⟩ => ⟨S128x2048, .bf16⟩
  | .hbm, ⟨15, _⟩ => ⟨S_, .bf16⟩
  | .hbm, ⟨16, _⟩ => ⟨S128x2048, .bf16⟩
  | .hbm, ⟨17, _⟩ => ⟨S128x2048, .bf16⟩
  | .hbm, ⟨18, _⟩ => ⟨S128x2048, .f32⟩
  | .hbm, ⟨19, _⟩ => ⟨S2048x128, .f32⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x2048, .f32⟩
  | .hbm, ⟨24, _⟩ => ⟨S128x2048, .f32⟩
  | .hbm, ⟨25, _⟩ => ⟨S128x2048, .bf16⟩
  | .hbm, ⟨26, _⟩ => ⟨S_, .bf16⟩
  | .hbm, ⟨27, _⟩ => ⟨S128x2048, .bf16⟩
  | .hbm, ⟨28, _⟩ => ⟨S128x2048, .bf16⟩
  | .hbm, ⟨29, _⟩ => ⟨S128x2048, .f32⟩
  | .hbm, ⟨30, _⟩ => ⟨S2048x128, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x2048, .f32⟩
  | .hbm, ⟨35, _⟩ => ⟨S128x2048, .f32⟩
  | .hbm, ⟨36, _⟩ => ⟨S128x2048, .bf16⟩
  | .hbm, ⟨37, _⟩ => ⟨S_, .bf16⟩
  | .hbm, ⟨38, _⟩ => ⟨S128x2048, .bf16⟩
  | .hbm, ⟨39, _⟩ => ⟨S128x2048, .bf16⟩
  | .hbm, ⟨40, _⟩ => ⟨S128x2048, .f32⟩
  | .hbm, ⟨41, _⟩ => ⟨S2048x128, .f32⟩
  | .hbm, ⟨42, _⟩ => ⟨S128x128, .f32⟩
  | .hbm, ⟨43, _⟩ => ⟨S128x128, .bf16⟩
  | .hbm, ⟨44, _⟩ => ⟨S128x128, .f32⟩
  | _, _ => ⟨S128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Proof.Ideal.Sched.lean ====
/-
The exchange between the eight devices, as a schedule of duties on semaphore cells.

Device `c` talks to seven peers: hop `k : Fin 7` names the device whose number is `c` with the bits of `k + 1`
flipped, so that each device is the hop-`k` peer of its own hop-`k` peer. There are three layers; in each, a device
writes its partial block into one row of its send buffer and copies that row into its peers' receive buffers. Slot
`s = 7 * layer + hop` of the receive buffer belongs to one such copy.

Every semaphore cell is used for one round, with one duty:

* barrier cell: one unit, paid by the device itself; nothing is handed over;
* ready cell `k`: one unit, paid by the hop-`k` peer; it hands over that peer's receive slots `k`, `7 + k`, `14 + k`;
* receive cell `s`: one block, paid by the peer's copy; it hands over the slot holding the peer's block;
* send cell `s`: one block, paid by the device's own copy; it hands back a share of the send buffer's row;
* the result's cell: one block, paid by the device's own copy of the result to its array; it hands over both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Peers, layers, hops -/

set_option backward.proofsInPublic true in
/-- The hop-`k` peer of device `c`. -/
def peer (k : Fin 7) (c : Dev nD) : Dev nD :=
  ⟨c.val ^^^ (k.val + 1), Nat.xor_lt_two_pow (n := 3) c.isLt (show k.val + 1 < 8 by omega)⟩

theorem peer_peer (k : Fin 7) (c : Dev nD) : peer k (peer k c) = c := by revert k c; decide

set_option backward.proofsInPublic true in
/-- The layer a slot belongs to. -/
def lay (s : Fin 21) : Fin 3 := ⟨s.val / 7, by omega⟩
set_option backward.proofsInPublic true in
/-- The hop a slot belongs to. -/
def hop (s : Fin 21) : Fin 7 := ⟨s.val % 7, by omega⟩
set_option backward.proofsInPublic true in
/-- The slot of a layer and a hop. -/
def slot (l : Fin 3) (k : Fin 7) : Fin 21 := ⟨7 * l.val + k.val, by omega⟩

theorem hop_slot (l : Fin 3) (k : Fin 7) : hop (slot l k) = k := by revert l k; decide
theorem lay_slot (l : Fin 3) (k : Fin 7) : lay (slot l k) = l := by revert l k; decide

/-! ## Memrefs -/

abbrev xM : Memref sig .tc .vmem S128x128 .bf16 := Memref.whole cc0_stg0_0
abbrev wM : Memref sig .tc .vmem S768x256 .bf16 := Memref.whole cc0_stg1_0
abbrev outM : Memref sig .tc .hbm S128x128 .f32 := Memref.whole main_v1
abbrev sndM : Memref sig .tc .vmem S3x128x128 .bf16 := Memref.whole cc0_scratch0
abbrev rcvM : Memref sig .tc .vmem S21x128x128 .bf16 := Memref.whole cc0_scratch1
abbrev resM : Memref sig .tc .vmem S128x128 .f32 := Memref.whole cc0_scratch5

theorem inbS (l : Fin 3) : ∀ a, (![l.val, 0, 0] : Fin 3 → Nat) a + S1x128x128.size a ≤ S3x128x128.size a := by revert l; decide
theorem inbR (s : Fin 21) : ∀ a, (![s.val, 0, 0] : Fin 3 → Nat) a + S1x128x128.size a ≤ S21x128x128.size a := by revert s; decide

/-- Row `l` of the send buffer, slot `s` of the receive buffer, as rectangles. -/
abbrev rectS (l : Fin 3) : Rect S3x128x128 := Rect.unit (s := S3x128x128) ![l.val, 0, 0] S1x128x128.size (inbS l)
abbrev rectR (s : Fin 21) : Rect S21x128x128 := Rect.unit (s := S21x128x128) ![s.val, 0, 0] S1x128x128.size (inbR s)

/-- Row `l` of the send buffer and slot `s` of the receive buffer, as the copies name them. -/
abbrev srcM (l : Fin 3) : Memref sig .tc .vmem S128x128 .bf16 :=
  (sndM.slice (rectS l) (fun _ => rfl)).squeeze S128x128 squeezes_S1x128x128_S128x128
abbrev dstM (s : Fin 21) : Memref sig .tc .vmem S128x128 .bf16 :=
  (rcvM.slice (rectR s) (fun _ => rfl)).squeeze S128x128 squeezes_S1x128x128_S128x128

/-! ## Cells -/

/-- The kernel's own semaphores: ready, send, receive, result. -/
abbrev Ox : Type := Fin 7 ⊕ Fin 21 ⊕ Fin 21 ⊕ Unit
/-- All cells of the exchange: the barrier and the own ones. -/
abbrev Kx : Type := Unit ⊕ Ox

abbrev kBar : Kx := .inl ()
abbrev kRdy (k : Fin 7) : Kx := .inr (.inl k)
abbrev kSnd (s : Fin 21) : Kx := .inr (.inr (.inl s))
abbrev kRcv (s : Fin 21) : Kx := .inr (.inr (.inr (.inl s)))
abbrev kOut : Kx := .inr (.inr (.inr (.inr ())))

abbrev barS : Sem sig := (SemArray.scalar (sig.barrier 0 rfl) : Sems sig S_).sem
set_option backward.proofsInPublic true in
abbrev rdyS (k : Fin 7) : Sem sig := ⟨k.val, show k.val < 8 by omega⟩
set_option backward.proofsInPublic true in
abbrev sndS (s : Fin 21) : DmaSem sig := ⟨2 + s.val, show 2 + s.val < 45 by omega⟩
set_option backward.proofsInPublic true in
abbrev rcvS (s : Fin 21) : DmaSem sig := ⟨23 + s.val, show 23 + s.val < 45 by omega⟩
abbrev outS : DmaSem sig := cc0_scratch6.sem

/-- The semaphore of an own cell, of a cell. -/
def osem : Ox → SemLoc sig
  | .inl k => .reg (rdyS k)
  | .inr (.inl s) => .dma (sndS s)
  | .inr (.inr (.inl s)) => .dma (rcvS s)
  | .inr (.inr (.inr _)) => .dma outS
def csem : Kx → SemLoc sig
  | .inl _ => .reg barS
  | .inr o => osem o

/-- Which cell a semaphore is, if any of the exchange's. -/
def kind : SemLoc sig → Option Kx
  | .reg i => if h : i.val < 7 then some (kRdy ⟨i.val, h⟩) else some kBar
  | .dma i =>
    if i.val < 2 then none
    else if h : i.val - 2 < 21 then some (kSnd ⟨i.val - 2, h⟩)
    else if h : i.val - 23 < 21 then some (kRcv ⟨i.val - 23, h⟩)
    else some kOut

theorem kind_csem (x : Kx) : kind (csem x) = some x := by
  match x with
  | .inl () => decide
  | .inr (.inl k) => revert k; decide
  | .inr (.inr (.inl s)) => revert s; decide
  | .inr (.inr (.inr (.inl s))) => revert s; decide
  | .inr (.inr (.inr (.inr ()))) => decide

abbrev cell (c : Dev nD) (x : Kx) : GSem nD τ sig := ((c : Thread nD τ), csem x)

/-- What a block's copy credits. -/
abbrev N : ℕ := (dstM 0).view.dmaCredit
/-- What the result's copy credits. -/
abbrev NO : ℕ := outM.view.dmaCredit
theorem N_pos : 0 < N := View.dmaCredit_pos _ (by decide)
theorem NO_pos : 0 < NO := View.dmaCredit_pos _ (by decide)

/-! ## Contents -/

/-- What the input's and the weights' staging buffers hold on device `c`. -/
def xs (c : Dev nD) : (cc0_stg0_0 : Ref sig .tc).ty.Contents (Elt F) := iblk m c 0 t0_0
def ws (c : Dev nD) : (cc0_stg1_0 : Ref sig .tc).ty.Contents (Elt F) := iblk m c 1 t0_0

abbrev rectX : Rect S128x128 := Rect.unit (s := S128x128) ![0, 0] S128x128.size inb_S128x128_S128x128_0_0
/-- The input as the kernel loads it, and the 128 rows of the weights from row `r`. -/
def xv (c : Dev nD) : Vec F S128x128 .bf16 := xM.view.readAt (Elt F) rectX.toLoadRect (xs m c)
def wv (c : Dev nD) (r : ℕ) (h : ∀ a, (![r, 0] : Fin 2 → Nat) a + S128x256.size a ≤ S768x256.size a) : Vec F S128x256 .bf16 :=
  wM.view.readAt (Elt F) (Rect.unit (s := S768x256) ![r, 0] S128x256.size h).toLoadRect (ws m c)

/-- Device `c`'s partial of layer 0, and the block it sends. -/
def part0 (c : Dev nD) : FVec F S128x128 .f32 :=
  k0_pay1 (xv m c) (wv m c 0 inb_S768x256_S128x256_0_0) (wv m c 384 inb_S768x256_S128x256_384_0)
def blk0 (c : Dev nD) : FVec F S1x128x128 .bf16 :=
  k0_pay2 (xv m c) (wv m c 0 inb_S768x256_S128x256_0_0) (wv m c 384 inb_S768x256_S128x256_384_0)

/-- Layer 1: the near six blocks of layer 0 added to the own partial, then the partial of layer 1. -/
def near0 (c : Dev nD) : FVec F S128x128 .f32 :=
  k0_pay5 (k0_pay4 (k0_pay3 (part0 m c) (blk0 m (peer 0 c))) (blk0 m (peer 2 c)) (blk0 m (peer 3 c)))
    (blk0 m (peer 1 c)) (blk0 m (peer 4 c)) (blk0 m (peer 6 c))
def part1 (c : Dev nD) : FVec F S128x128 .f32 :=
  k0_pay6 (near0 m c) (wv m c 128 inb_S768x256_S128x256_128_0) (blk0 m (peer 5 c)) (wv m c 128 inb_S768x256_S128x256_128_0)
    (wv m c 512 inb_S768x256_S128x256_512_0)
def blk1 (c : Dev nD) : FVec F S1x128x128 .bf16 := k0_pay7 (part1 m c)

/-- Layer 2 likewise. -/
def near1 (c : Dev nD) : FVec F S128x128 .f32 :=
  k0_pay10 (k0_pay9 (k0_pay8 (part1 m c) (blk1 m (peer 0 c))) (blk1 m (peer 2 c)) (blk1 m (peer 3 c)))
    (blk1 m (peer 1 c)) (blk1 m (peer 4 c))
def part2 (c : Dev nD) : FVec F S128x128 .f32 :=
  k0_pay11 (near1 m c) (blk1 m (peer 6 c)) (wv m c 256 inb_S768x256_S128x256_256_0) (blk1 m (peer 5 c))
    (wv m c 256 inb_S768x256_S128x256_256_0) (wv m c 640 inb_S768x256_S128x256_640_0)
def blk2 (c : Dev nD) : FVec F S1x128x128 .bf16 := k0_pay12 (part2 m c)

/-- The result: the own partial of layer 2 and the seven blocks. -/
def total (c : Dev nD) : FVec F S128x128 .f32 :=
  k0_pay16 (k0_pay15 (k0_pay14 (k0_pay13 (part2 m c) (blk2 m (peer 0 c))) (blk2 m (peer 2 c)) (blk2 m (peer 3 c)))
    (blk2 m (peer 1 c)) (blk2 m (peer 4 c))) (blk2 m (peer 6 c)) (blk2 m (peer 5 c))

/-- The block device `c` sends in layer `l`. -/
def blk (l : Fin 3) (c : Dev nD) : FVec F S1x128x128 .bf16 := match l with
  | 0 => blk0 m c
  | 1 => blk1 m c
  | 2 => blk2 m c

set_option backward.proofsInPublic true in
/-- The index of a block a row's index is at. -/
def inRow {n : ℕ} (i : (⟨3, ![n, 128, 128]⟩ : Shape).Idx) : S1x128x128.Idx := fun a => match a with
  | 0 => ⟨0, Nat.one_pos⟩
  | 1 => i 1
  | 2 => i 2

/-- The send buffer with every row holding its layer's block. -/
def sbuf (c : Dev nD) : (cc0_scratch0 : Ref sig .tc).ty.Contents (Elt F) :=
  fun (i : S3x128x128.Idx) => blk m (i 0) c (inRow i)
/-- The receive buffer with every slot holding the block of the peer that fills it. -/
def rbuf (c : Dev nD) : (cc0_scratch1 : Ref sig .tc).ty.Contents (Elt F) :=
  fun (i : S21x128x128.Idx) => blk m (lay (i 0)) (peer (hop (i 0)) c) (inRow i)

/-- The result's staging buffer after the store. -/
def resv (c : Dev nD) : FVec F S128x128 .f32 := k0_pay17 (total m c)

/-! ## Assertions -/

/-- Share `k` of the eight a row's ownership is cut into. -/
def shr (k : Fin 8) : PosShare TreeShare := ShareLeaves.leaf 3 fullShare k

def srcPts (c : Dev nD) (l : Fin 3) (q : PosShare TreeShare) (f : Buf (Elt F) ((srcM l).view.loc (c : Thread nD τ))) : sProp 𝕄 :=
  (srcM l).view.loc (c : Thread nD τ) ↦[(srcM l).view.set]{q} f
def dstPts (c : Dev nD) (s : Fin 21) (f : Buf (Elt F) ((dstM s).view.loc (c : Thread nD τ))) : sProp 𝕄 :=
  (dstM s).view.loc (c : Thread nD τ) ↦[(dstM s).view.set]{fullShare} f
/-- Slot `s` of the receive buffer of `c`, at some contents. -/
def dstAny (c : Dev nD) (s : Fin 21) : sProp 𝕄 := iprop(∃ f, dstPts c s f)
def resPts (c : Dev nD) (f : Buf (Elt F) (resM.view.loc (c : Thread nD τ))) : sProp 𝕄 :=
  resM.view.loc (c : Thread nD τ) ↦[resM.view.set]{fullShare} f
def outPts (c : Dev nD) (f : Buf (Elt F) (outM.view.loc (c : Thread nD τ))) : sProp 𝕄 :=
  outM.view.loc (c : Thread nD τ) ↦[outM.view.set]{fullShare} f

/-- What the duty of cell `x` of device `c` hands over. -/
def pay (c : Dev nD) : Kx → sProp 𝕄
  | .inl _ => iprop(emp)
  | .inr (.inl k) => iprop(dstAny (peer k c) (slot 0 k) ∗ dstAny (peer k c) (slot 1 k) ∗ dstAny (peer k c) (slot 2 k))
  | .inr (.inr (.inl s)) => srcPts c (lay s) (shr (hop s).castSucc) (sbuf m c)
  | .inr (.inr (.inr (.inl s))) => dstPts c s (rbuf m c)
  | .inr (.inr (.inr (.inr _))) => iprop(outPts c (resv m c) ∗ resPts c (resv m c))

/-- The amount of the duty of cell `x`. -/
def amt : Kx → ℕ
  | .inl _ => 1
  | .inr (.inl _) => 1
  | .inr (.inr (.inl _)) => N
  | .inr (.inr (.inr (.inl _))) => N
  | .inr (.inr (.inr (.inr _))) => NO

theorem amt_pos (x : Kx) : 0 < amt x := by
  rcases x with _ | _ | _ | _ | _
  · exact Nat.one_pos
  · exact Nat.one_pos
  · exact N_pos
  · exact N_pos
  · exact NO_pos

instance srcPts_storable (c : Dev nD) (l : Fin 3) (q f) : BI.Storable (upEmb : UEmb _ 𝕄) (srcPts c l q f) := by
  unfold srcPts; infer_instance
instance dstPts_storable (c : Dev nD) (s : Fin 21) (f) : BI.Storable (upEmb : UEmb _ 𝕄) (dstPts c s f) := by
  unfold dstPts; infer_instance
instance dstAny_storable (c : Dev nD) (s : Fin 21) : BI.Storable (upEmb : UEmb _ 𝕄) (dstAny (F := F) c s) := by
  unfold dstAny; infer_instance
instance resPts_storable (c : Dev nD) (f) : BI.Storable (upEmb : UEmb _ 𝕄) (resPts c f) := by
  unfold resPts; infer_instance
instance outPts_storable (c : Dev nD) (f) : BI.Storable (upEmb : UEmb _ 𝕄) (outPts c f) := by
  unfold outPts; infer_instance

instance pay_storable (c : Dev nD) (x : Kx) : BI.Storable (upEmb : UEmb _ 𝕄) (pay m c x) := by
  rcases x with _ | k | s | s | _ <;> dsimp only [pay] <;> infer_instance

/-- One round, round 0, with one duty, on every cell of the exchange. -/
def Rd : Rounds.Schedule (GSem nD τ sig) Unit 𝕄 where
  duties g r := if r = 0 ∧ g.1.2 = .tc ∧ (kind g.2).isSome then {()} else ∅
  unitless _ := False
  amount g _ _ := ((kind g.2).map amt).getD 1
  payload g _ _ := ((kind g.2).map (pay m g.1.1)).getD iprop(emp)
  amount_pos g _ _ _ := by
    cases kind g.2 with
    | none => exact Nat.one_pos
    | some x => exact amt_pos x

instance Rd_storable (g : GSem nD τ sig) (r : ℕ) (d : Unit) : BI.Storable (upEmb : UEmb _ 𝕄) ((Rd m).payload g r d) := by
  show BI.Storable (upEmb : UEmb _ 𝕄) (((kind g.2).map (pay m g.1.1)).getD iprop(emp))
  cases kind g.2 with
  | none => exact inferInstanceAs (BI.Storable (upEmb : UEmb _ 𝕄) iprop(emp))
  | some x => exact pay_storable m g.1.1 x

section Sched
variable (c : Dev nD) (x : Kx)

theorem duties_cell : (Rd m).duties (cell c x) 0 = {()} :=
  if_pos ⟨rfl, rfl, by show (kind (csem x)).isSome = true; rw [kind_csem]; rfl⟩
theorem mem_duties : () ∈ (Rd m).duties (cell c x) 0 := by rw [duties_cell]; exact Finset.mem_singleton_self _
theorem duties_later (g : GSem nD τ sig) : ∀ r, 1 ≤ r → (Rd m).duties g r = ∅ :=
  fun r hr => if_neg fun h => by have := h.1; omega
theorem amount_cell (d : Unit) : (Rd m).amount (cell c x) 0 d = amt x := by
  show ((kind (csem x)).map amt).getD 1 = amt x; rw [kind_csem]; rfl
theorem payload_cell (d : Unit) : (Rd m).payload (cell c x) 0 d = pay m c x := by
  show ((kind (csem x)).map (pay m c)).getD iprop(emp) = pay m c x; rw [kind_csem]; rfl
theorem expect_cell : (Rd m).expect (cell c x) 0 = amt x := by
  unfold Schedule.expect Schedule.amountOf; rw [duties_cell, Finset.sum_singleton, amount_cell]
theorem rest_cell : bigSep ((Rd m).duties (cell c x) 0 \ ∅) (fun d => (Rd m).payload (cell c x) 0 d) = pay m c x := by
  rw [Finset.sdiff_empty, duties_cell, bigSep_singleton, payload_cell]

end Sched

/-! ## What each device owes; the levels -/

/-- Device `c` still owes one unit to each peer's ready cell in `ks`, one block to the receive cell of the peer of each
    slot in `ss`. -/
def owedR (c : Dev nD) : List (Fin 7) → CellTallies nD τ sig Unit
  | [] => 0
  | k :: ks => owedR c ks + tallyAt (cell (peer k c) (kRdy k)) () 1
def owedV (c : Dev nD) : List (Fin 21) → CellTallies nD τ sig Unit
  | [] => 0
  | s :: ss => owedV c ss + tallyAt (cell (peer (hop s) c) (kRcv s)) () N
def owed (c : Dev nD) (ks : List (Fin 7)) (ss : List (Fin 21)) : CellTallies nD τ sig Unit := owedR c ks + owedV c ss

/-- The order in which a device visits its peers. -/
abbrev hops : List (Fin 7) := [0, 2, 3, 1, 4, 6, 5]
/-- The slots in the order in which they are sent. -/
abbrev slots0 : List (Fin 21) := [0, 2, 3, 1, 4, 6, 5]
abbrev slots1 : List (Fin 21) := [7, 9, 10, 8, 11, 13, 12]
abbrev slots2 : List (Fin 21) := [14, 16, 17, 15, 18, 20, 19]
abbrev ranks : List (Fin 7) := [0, 1, 2, 3, 4, 5, 6]

/-- All a device owes at launch: all of the above and one unit to its own barrier cell. -/
def O₀ (c : Dev nD) : CellTallies nD τ sig Unit :=
  owed c ranks (slots0 ++ slots1 ++ slots2) + tallyAt (cell c kBar) () 1

def L (g : GSem nD τ sig) : Finset Unit := if g.1.2 = .tc then {()} else ∅
/-- Levels: staging, send and result cells 0, barrier 1, ready 2, the receive cells of layer `l` at `3 + l`. -/
def lvK : Kx → ℕ
  | .inl _ => 1
  | .inr (.inl _) => 2
  | .inr (.inr (.inl _)) => 0
  | .inr (.inr (.inr (.inl s))) => 3 + (lay s).val
  | .inr (.inr (.inr (.inr _))) => 0
def lvS (s : SemLoc sig) : ℕ := ((kind s).map lvK).getD 0
def lv (g : GSem nD τ sig) (_ : Unit) : ℕ := lvS g.2

theorem lvS_csem (x : Kx) : lvS (csem x) = lvK x := by unfold lvS; rw [kind_csem]; rfl

theorem L_of_ne (g : GSem nD τ sig) (h : g.1.2 ≠ .tc) : L g = ∅ := if_neg h
theorem L_tc (c : Dev nD) (sm : SemLoc sig) : L ((c : Thread nD τ), sm) = {()} := if_pos rfl

/-- A cell that is owed to is a ready cell of a listed hop or a receive cell of a listed slot. -/
theorem owedR_pos {c : Dev nD} {g : GSem nD τ sig} {u : Unit} : ∀ {ks : List (Fin 7)}, 0 < owedR c ks g u →
    ∃ k ∈ ks, g = cell (peer k c) (kRdy k)
  | [], h => absurd h (Nat.lt_irrefl 0)
  | k :: ks, h => by
    rw [owedR, Pi.add_apply, Finsupp.add_apply, tallyAt_apply] at h
    by_cases hg : g = cell (peer k c) (kRdy k)
    · exact ⟨k, List.mem_cons_self, hg⟩
    · rw [if_neg (fun h' => hg h'.1), Nat.add_zero] at h
      obtain ⟨k', hk', e⟩ := owedR_pos h
      exact ⟨k', List.mem_cons_of_mem _ hk', e⟩
theorem owedV_pos {c : Dev nD} {g : GSem nD τ sig} {u : Unit} : ∀ {ss : List (Fin 21)}, 0 < owedV c ss g u →
    ∃ s ∈ ss, g = cell (peer (hop s) c) (kRcv s)
  | [], h => absurd h (Nat.lt_irrefl 0)
  | s :: ss, h => by
    rw [owedV, Pi.add_apply, Finsupp.add_apply, tallyAt_apply] at h
    by_cases hg : g = cell (peer (hop s) c) (kRcv s)
    · exact ⟨s, List.mem_cons_self, hg⟩
    · rw [if_neg (fun h' => hg h'.1), Nat.add_zero] at h
      obtain ⟨k', hk', e⟩ := owedV_pos h
      exact ⟨k', List.mem_cons_of_mem _ hk', e⟩

/-- A device may wait on a cell of level `n` while all it owes is above `n`. -/
theorem mayWait_of (c : Dev nD) (sm : SemLoc sig) (n : ℕ) (hn : lvS sm = n) (O : CellTallies nD τ sig Unit)
    (hO : ∀ g u, 0 < O g u → ∃ c' x, g = cell c' x ∧ n < lvK x) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', x, rfl, -⟩ := hO g u hg; exact Finset.mem_singleton_self _)
    (fun p hp => by rw [Finset.mem_singleton.mp hp]; exact le_of_eq hn)
    (fun g u hg => by obtain ⟨c', x, rfl, h⟩ := hO g u hg; show n < lvS (csem x); rw [lvS_csem]; exact h)

theorem owed_above {c : Dev nD} {ks : List (Fin 7)} {ss : List (Fin 21)} {n : ℕ} (hk : ks ≠ [] → n < 2)
    (hs : ∀ s ∈ ss, n < 3 + (lay s).val) (g : GSem nD τ sig) (u : Unit) (h : 0 < owed c ks ss g u) :
    ∃ c' x, g = cell c' x ∧ n < lvK x := by
  unfold owed at h
  rw [Pi.add_apply, Finsupp.add_apply] at h
  rcases Nat.eq_zero_or_pos (owedR c ks g u) with h0 | h0
  · rw [h0, Nat.zero_add] at h
    obtain ⟨s, hm, e⟩ := owedV_pos h
    exact ⟨_, _, e, hs s hm⟩
  · obtain ⟨k, hm, e⟩ := owedR_pos h0
    exact ⟨_, _, e, hk (List.ne_nil_of_mem hm)⟩

/-- A device may wait on a cell `x` while all it owes is above it. -/
theorem mayWait_cell (c : Dev nD) (x : Kx) (ks : List (Fin 7)) (ss : List (Fin 21)) (hk : ks ≠ [] → lvK x < 2)
    (hs : ∀ s ∈ ss, lvK x < 3 + (lay s).val) :
    (levAts L lv : sProp 𝕄) ⊢ MayWait (c : Thread nD τ) (csem x) () (owed c ks ss) :=
  mayWait_of c (csem x) (lvK x) (lvS_csem x) _ (owed_above hk hs)

end Cert.KernelIdeal.Run

end
-- ==== Proof.Ideal.Steps.lean ====
/-
The steps of the exchange: one rule for each kind of remote effect, at any device and any slot, and what the rows and slots
hold before and after the stores, copies and loads.
-/
module

public import proofs.«01_k».proof.Proof.Ideal.Sched

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents of rows and slots -/

set_option backward.proofsInPublic true in
/-- An index of a row, as an index of a block. -/
abbrev un (j : S128x128.Idx) : S1x128x128.Idx := Shape.reshapeEquiv (squeezes_S1x128x128_S128x128).numel_eq j

theorem src_emb_zero (l : Fin 3) (j : S128x128.Idx) : ((srcM l).view.emb j : S3x128x128.Idx) 0 = l := by
  apply Fin.ext
  show l.val + 1 * ((un j) 0).val = l.val
  have : ((un j) 0).val < 1 := ((un j) 0).isLt
  omega
theorem dst_emb_zero (s : Fin 21) (j : S128x128.Idx) : ((dstM s).view.emb j : S21x128x128.Idx) 0 = s := by
  apply Fin.ext
  show s.val + 1 * ((un j) 0).val = s.val
  have : ((un j) 0).val < 1 := ((un j) 0).isLt
  omega

/-- A row's index read back is the block's. -/
theorem inRow_of {n : ℕ} (o : ℕ) (h : ∀ a, (![o, 0, 0] : Fin 3 → Nat) a + S1x128x128.size a ≤ (⟨3, ![n, 128, 128]⟩ : Shape).size a)
    (j : S1x128x128.Idx) : inRow ((Rect.unit (s := (⟨3, ![n, 128, 128]⟩ : Shape)) ![o, 0, 0] S1x128x128.size h).emb j) = j := by
  funext a
  apply Fin.ext
  match a with
  | 0 =>
    show 0 = (j 0).val
    have : (j 0).val < 1 := (j 0).isLt
    omega
  | 1 => show 0 + 1 * (j 1).val = (j 1).val; omega
  | 2 => show 0 + 1 * (j 2).val = (j 2).val; omega

theorem sbuf_src (c : Dev nD) (l : Fin 3) (j : S128x128.Idx) : sbuf m c ((srcM l).view.emb j) = blk m l c (un j) := by
  show blk m (((srcM l).view.emb j : S3x128x128.Idx) 0) c (inRow ((rectS l).emb (un j))) = blk m l c (un j)
  rw [src_emb_zero, inRow_of]
theorem rbuf_dst (c : Dev nD) (s : Fin 21) (j : S128x128.Idx) : rbuf m c ((dstM s).view.emb j) = blk m (lay s) (peer (hop s) c) (un j) := by
  show blk m (lay (((dstM s).view.emb j : S21x128x128.Idx) 0)) (peer (hop (((dstM s).view.emb j : S21x128x128.Idx) 0)) c)
    (inRow ((rectR s).emb (un j))) = _
  rw [dst_emb_zero, inRow_of]

theorem acc_src (l : Fin 3) : (sndM.access (rectS l)).set = (srcM l).view.set := (Memref.set_view_squeeze _ _).symm
theorem acc_dst (s : Fin 21) : (rcvM.access (rectR s)).set = (dstM s).view.set := (Memref.set_view_squeeze _ _).symm

/-- What a copy into slot `s` leaves there: the receive buffer's final contents. -/
theorem landed (c : Dev nD) (s : Fin 21) (fd : Buf (Elt F) ((dstM s).view.loc (peer (hop s) c : Thread nD τ))) :
    dstPts (peer (hop s) c) s ((dstM s).view.write (Elt F) fd ((srcM (lay s)).view.read (Elt F) (sbuf m c)) Finset.univ)
      = dstPts (peer (hop s) c) s (rbuf m (peer (hop s) c)) := by
  unfold dstPts
  refine pointsTo_congr fun i hi => ?_
  obtain ⟨j, -, rfl⟩ := Finset.mem_map.mp hi
  rw [View.write_emb, if_pos (Finset.mem_univ _), View.read_apply]
  refine (sbuf_src m c (lay s) j).trans ?_
  refine Eq.trans ?_ (rbuf_dst m (peer (hop s) c) s j).symm
  rw [peer_peer]

/-- What a load of slot `s` reads. -/
theorem read_slot (c : Dev nD) (s : Fin 21) : (rcvM.access (rectR s)).read (Elt F) (rbuf m c) = blk m (lay s) (peer (hop s) c) := by
  funext j
  show blk m (lay (((rectR s).emb j) 0)) (peer (hop (((rectR s).emb j) 0)) c) (inRow ((rectR s).emb j)) = _
  rw [inRow_of]
  have : ((rectR s).emb j) 0 = s := by
    apply Fin.ext
    show s.val + 1 * (j 0).val = s.val
    have : (j 0).val < 1 := (j 0).isLt
    omega
  rw [this]

/-- What a store of layer `l`'s block into row `l` leaves there: the send buffer's final contents. -/
theorem stored (c : Dev nD) (l : Fin 3) (f : Buf (Elt F) ((srcM l).view.loc (c : Thread nD τ))) (w : S1x128x128.Idx → Elt F .bf16)
    (hw : w = blk m l c) :
    srcPts c l fullShare ((sndM.access (rectS l)).write (Elt F) f w Finset.univ) = srcPts c l fullShare (sbuf m c) := by
  unfold srcPts
  refine pointsTo_congr fun i hi => ?_
  obtain ⟨j, -, rfl⟩ := Finset.mem_map.mp hi
  have e : (srcM l).view.emb j = (sndM.access (rectS l)).emb (un j) := rfl
  rw [sbuf_src, e, View.write_emb, if_pos (Finset.mem_univ _), hw]
  rfl

/-! ## Lists of assertions -/

/-- The assertions of the members of a list, all at once. -/
def sepL {ι : Type} (Φ : ι → sProp 𝕄) : List ι → sProp 𝕄
  | [] => iprop(emp)
  | a :: l => iprop(Φ a ∗ sepL Φ l)

omit [FloatOps F] in
theorem sepL_cons {ι : Type} (Φ : ι → sProp 𝕄) (a : ι) (l : List ι) : sepL Φ (a :: l) = iprop(Φ a ∗ sepL Φ l) := rfl
omit [FloatOps F] in
theorem sepL_nil {ι : Type} (Φ : ι → sProp 𝕄) : sepL Φ [] = iprop(emp) := rfl

omit [FloatOps F] in
/-- The members of a list without repetitions that lists a whole type: the type's assertions, all at once. -/
theorem sepL_univ {ι : Type} [Fintype ι] [DecidableEq ι] (Φ : ι → sProp 𝕄) (l : List ι) (hn : l.Nodup) (hu : l.toFinset = Finset.univ) :
    bigSep Finset.univ Φ = sepL Φ l := by
  have key : ∀ l : List ι, l.Nodup → bigSep l.toFinset Φ = sepL Φ l := by
    intro l
    induction l with
    | nil => intro _; rw [List.toFinset_nil, bigSep_empty, sepL_nil]; rfl
    | cons a l ih =>
      intro h
      rw [List.toFinset_cons, bigSep_insert (by rw [List.mem_toFinset]; exact (List.nodup_cons.mp h).1), ih (List.nodup_cons.mp h).2, sepL_cons]
      rfl
  rw [← hu, key l hn]

/-! ## What every device knows -/

/-- Every cell's invariant, that every cell is at round 0, the levels. -/
def ctx (K : Dev nD × Kx → ℕ) : sProp 𝕄 :=
  iprop((bigSep Finset.univ fun p : Dev nD × Kx => cellInv ER (Rd m) (K p) (cell p.1 p.2))
    ∗ (bigSep Finset.univ fun p : Dev nD × Kx => reached ER (cell p.1 p.2) 0) ∗ levAts L lv)

instance ctx_persistent (K : Dev nD × Kx → ℕ) : BI.Persistent (ctx m K) := by unfold ctx; infer_instance

/-- What device `c` owes, whatever its waits so far. -/
def owesE (c : Dev nD) (O : CellTallies nD τ sig Unit) : sProp 𝕄 := iprop(∃ W, owes (c : Thread nD τ) O W)

section Steps
variable (K : Dev nD × Kx → ℕ)

theorem ctx_inv (c : Dev nD) (x : Kx) : ctx m K ⊢ cellInv ER (Rd m) (K (c, x)) (cell c x) := by
  unfold ctx; iintro ⟨#H, -, -⟩
  iapply (show (bigSep Finset.univ fun p : Dev nD × Kx => (cellInv ER (Rd m) (K p) (cell p.1 p.2) : sProp 𝕄)) ⊢ cellInv ER (Rd m) (K (c, x)) (cell c x)
    from bigSep_elim (Finset.mem_univ (c, x)))
  iexact H
theorem ctx_reached (c : Dev nD) (x : Kx) : ctx m K ⊢ reached ER (cell c x) 0 := by
  unfold ctx; iintro ⟨-, #H, -⟩
  iapply (show (bigSep Finset.univ fun p : Dev nD × Kx => (reached ER (cell p.1 p.2) 0 : sProp 𝕄)) ⊢ reached ER (cell c x) 0
    from bigSep_elim (Finset.mem_univ (c, x)))
  iexact H
theorem ctx_lev : ctx m K ⊢ levAts L lv := by
  unfold ctx; iintro ⟨-, -, #H⟩; iexact H

/-- A device's program, from here to its end. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to cell `x` of device `d`: its duty is paid. -/
theorem wp_sig {α : Type} {Q : α → sProp 𝕄} (c d n : Dev nD) (x : Kx) (sem : Sem sig) (hs : csem x = .reg sem) (hn : n = d) (ha : amt x = 1)
    (O : CellTallies nD τ sig Unit) {k' : ℕ} (hk : k' = 1) {k : PUnit → Prog (TpuEff nD τ sig (Elt F) Λ₀ .tc) α} :
    iprop(ctx m K ∗ owesE c (O + tallyAt (cell d x) () 1) ∗ dutyTok ER (cell d x) 0 () ∗ pay m d x)
      ⊢ iprop((owesE c O -∗ WP c (k ⟨⟩) Q) -∗ WP c (.op (.semSignal (n : Thread nD τ) sem k') k) Q) := by
  subst hn; subst hk
  unfold owesE
  iintro ⟨#HC, ⟨%W, HO⟩, Ht, Hp⟩ Hk
  have hcell : cell n x = ((n : Thread nD τ), SemLoc.reg sem) := by unfold cell; rw [hs]
  iapply (Rounds.wp_signal 𝒱₀ ER (Rd m) (c : Thread nD τ) none (dst := (n : Thread nD τ)) (sem := sem) (κ := K (n, x)) (r := 0)
      (d := ()) (by rw [← hcell]; exact mem_duties m n x) (by rw [← hcell, amount_cell, ha]) () O (by rw [← hcell])) $$ [HO Ht Hp]
  · rw [← hcell]
    isplitr; · iapply (ctx_inv m K n x); iexact HC
    isplitl [HO]; · iexact HO
    isplitl [Ht]; · iexact Ht
    isplitl [Hp]; · rw [payload_cell]; iexact Hp
    iapply (ctx_reached m K n x); iexact HC
  iintro HO
  iapply Hk
  iexists W; iexact HO

/-- The signal to the device's own barrier cell. -/
theorem wp_sig_bar {α : Type} {Q : α → sProp 𝕄} (c n : Dev nD) (sem : Sem sig) (hs : barS = sem) (hn : n = c) (O : CellTallies nD τ sig Unit)
    {k' : ℕ} (hk : k' = 1) {k : PUnit → Prog (TpuEff nD τ sig (Elt F) Λ₀ .tc) α} :
    iprop(ctx m K ∗ owesE c (O + tallyAt (cell c kBar) () 1) ∗ dutyTok ER (cell c kBar) 0 ())
      ⊢ iprop((owesE c O -∗ WP c (k ⟨⟩) Q) -∗ WP c (.op (.semSignal (n : Thread nD τ) sem k') k) Q) := by
  refine .trans ?_ (wp_sig m K c c n kBar sem (congrArg SemLoc.reg hs) hn rfl O hk)
  iintro ⟨HC, HO, Ht⟩
  isplitl [HC]; · iexact HC
  isplitl [HO]; · iexact HO
  isplitl [Ht]; · iexact Ht
  unfold pay
  iempintro

theorem owed_consR (c : Dev nD) (k : Fin 7) (ks : List (Fin 7)) (ss : List (Fin 21)) :
    owed c (k :: ks) ss = owed c ks ss + tallyAt (cell (peer k c) (kRdy k)) () 1 := by
  unfold owed; rw [owedR]; exact add_right_comm _ _ _
theorem owed_consV (c : Dev nD) (ks : List (Fin 7)) (s : Fin 21) (ss : List (Fin 21)) :
    owed c ks (s :: ss) = owed c ks ss + tallyAt (cell (peer (hop s) c) (kRcv s)) () N := by
  unfold owed; rw [owedV]; exact (add_assoc _ _ _).symm

/-- The three slots of one hop. -/
def dst3 (c : Dev nD) (k : Fin 7) : sProp 𝕄 := iprop(dstAny (F := F) c (slot 0 k) ∗ dstAny (F := F) c (slot 1 k) ∗ dstAny (F := F) c (slot 2 k))

/-- The ready signal to the hop-`k` peer: it hands over the three slots that peer fills. -/
theorem wp_sig_rdy {α : Type} {Q : α → sProp 𝕄} (c n : Dev nD) (k : Fin 7) (sem : Sem sig) (hs : rdyS k = sem) (hn : n = peer k c) (ks : List (Fin 7)) (ss : List (Fin 21))
    {k' : ℕ} (hk : k' = 1) {kk : PUnit → Prog (TpuEff nD τ sig (Elt F) Λ₀ .tc) α} :
    iprop(ctx m K ∗ owesE c (owed c (k :: ks) ss) ∗ dutyTok ER (cell (peer k c) (kRdy k)) 0 () ∗ dst3 (F := F) c k)
      ⊢ iprop((owesE c (owed c ks ss) -∗ WP c (kk ⟨⟩) Q) -∗ WP c (.op (.semSignal (n : Thread nD τ) sem k') kk) Q) := by
  refine .trans ?_ (wp_sig m K c (peer k c) n (kRdy k) sem (congrArg SemLoc.reg hs) hn rfl (owed c ks ss) hk)
  rw [owed_consR]
  refine sep_mono_right (sep_mono_right (sep_mono_right (Entails.of_eq ?_)))
  show dst3 c k = iprop(dstAny (peer k (peer k c)) (slot 0 k) ∗ dstAny (peer k (peer k c)) (slot 1 k) ∗ dstAny (peer k (peer k c)) (slot 2 k))
  rw [peer_peer]; rfl

/-- A wait for cell `x`'s one duty: the payload comes, and the cell closes at zero. -/
theorem wp_wait_cell {α : Type} {Q : α → sProp 𝕄} (c : Dev nD) (x : Kx) (ks : List (Fin 7)) (ss : List (Fin 21)) (hk : ks ≠ [] → lvK x < 2)
    (hs : ∀ s ∈ ss, lvK x < 3 + (lay s).val) {w : TpuEff nD τ sig (Elt F) Λ₀ .tc PUnit} {k' : ℕ} (ha : k' = amt x)
    (hw : ∀ K : PUnit → sProp 𝕄, wpE (defs₀ (F := F)) 𝒱₀ (c : Thread nD τ) none Set.univ w K = waitSpec (c : Thread nD τ) Set.univ (csem x) k' K)
    {k : PUnit → Prog (TpuEff nD τ sig (Elt F) Λ₀ .tc) α} :
    iprop(ctx m K ∗ owesE c (owed c ks ss) ∗ cred (tallyAt (cell c x) () (amt x)) ∗ atPos ER (cell c x) 0 ∅ 0)
      ⊢ iprop(((owesE c (owed c ks ss) ∗ semVal (cell c x) 0 ∗ pay m c x) -∗ WP c (k ⟨⟩) Q) -∗ WP c (.op w k) Q) := by
  subst ha
  unfold owesE
  iintro ⟨#HC, ⟨%W, HO⟩, Hc, Hat⟩ Hk
  iapply (Rounds.wp_wait_rest_token 𝒱₀ ER (Rd m) (c : Thread nD τ) none (κ := K (c, x)) hw (Set.mem_univ _) ()
      (O := owed c ks ss) (W := W) (R := 0) (m := 0) (T := ∅) (by rw [Nat.zero_add, expect_cell])) $$ [HO Hc Hat]
  · isplitr; · iapply (ctx_inv m K c x); iexact HC
    isplitl [Hc]; · iexact Hc
    isplitl [HO]; · iexact HO
    isplitr; · iapply (mayWait_cell c x ks ss hk hs); iapply (ctx_lev m K); iexact HC
    iexact Hat
  iintro ⟨HO, Hat, -, Hpay⟩
  ihave Hp := (Entails.of_eq (rest_cell m c x)) $$ Hpay
  imod (Rounds.cell_close ER (Rd m) (Set.mem_univ (K (c, x))) (fun h => h) (R := 0 + 1) (duties_later m (cell c x))) $$ [Hat] with Hz
  · isplitr; · iapply (ctx_inv m K c x); iexact HC
    iexact Hat
  iapply Hk
  isplitl [HO]; · iexists _; iexact HO
  isplitl [Hz]; · iexact Hz
  iexact Hp

/-- The wait on the barrier cell. -/
theorem wp_wait_bar {α : Type} {Q : α → sProp 𝕄} (c : Dev nD) (ks : List (Fin 7)) (ss : List (Fin 21)) (sem : Sem sig) (hs : barS = sem)
    {k' : ℕ} (ha : k' = 1) {k : PUnit → Prog (TpuEff nD τ sig (Elt F) Λ₀ .tc) α} :
    iprop(ctx m K ∗ owesE c (owed c ks ss) ∗ cred (tallyAt (cell c kBar) () 1) ∗ atPos ER (cell c kBar) 0 ∅ 0)
      ⊢ iprop(((owesE c (owed c ks ss) ∗ semVal (cell c kBar) 0 ∗ emp) -∗ WP c (k ⟨⟩) Q) -∗ WP c (.op (.semWait sem k') k) Q) := by
  subst hs
  exact wp_wait_cell m K c kBar ks ss (fun _ => by decide) (fun s _ => by show 1 < 3 + _; omega) ha
    (wpE_semWait_eq 𝒱₀ (c : Thread nD τ) none Set.univ)

/-- The wait on ready cell `k`: the peer's three slots come. -/
theorem wp_wait_rdy {α : Type} {Q : α → sProp 𝕄} (c : Dev nD) (k : Fin 7) (ss : List (Fin 21)) (sem : Sem sig) (hs : rdyS k = sem)
    {k' : ℕ} (ha : k' = 1) {kk : PUnit → Prog (TpuEff nD τ sig (Elt F) Λ₀ .tc) α} :
    iprop(ctx m K ∗ owesE c (owed c [] ss) ∗ cred (tallyAt (cell c (kRdy k)) () 1) ∗ atPos ER (cell c (kRdy k)) 0 ∅ 0)
      ⊢ iprop(((owesE c (owed c [] ss) ∗ semVal (cell c (kRdy k)) 0 ∗ dst3 (F := F) (peer k c) k) -∗ WP c (kk ⟨⟩) Q)
          -∗ WP c (.op (.semWait sem k') kk) Q) := by
  subst hs
  exact wp_wait_cell m K c (kRdy k) [] ss (fun h => absurd rfl h) (fun s _ => by show 2 < 3 + _; omega) ha
    (wpE_semWait_eq 𝒱₀ (c : Thread nD τ) none Set.univ)

/-- The wait on receive cell `s`: the slot comes, holding the peer's block. -/
theorem wp_wait_rcv {α : Type} {Q : α → sProp 𝕄} (c : Dev nD) (s : Fin 21) (ss : List (Fin 21)) (hss : ∀ s' ∈ ss, lay s < lay s') (sem : DmaSem sig) (hs : rcvS s = sem)
    {sp sp' : Space} {sh sh' : Shape} {e e' : EltTy} {src : Memref sig .tc sp sh e} {dst : Memref sig .tc sp' sh' e'}
    {h1 h2} (ha : dst.view.dmaCredit = N) {kk : PUnit → Prog (TpuEff nD τ sig (Elt F) Λ₀ .tc) α} :
    iprop(ctx m K ∗ owesE c (owed c [] ss) ∗ cred (tallyAt (cell c (kRcv s)) () N) ∗ atPos ER (cell c (kRcv s)) 0 ∅ 0)
      ⊢ iprop(((owesE c (owed c [] ss) ∗ semVal (cell c (kRcv s)) 0 ∗ dstPts c s (rbuf m c)) -∗ WP c (kk ⟨⟩) Q)
          -∗ WP c (.op (.waitDma2 sem src dst h1 h2) kk) Q) := by
  subst hs
  exact wp_wait_cell m K c (kRcv s) [] ss (fun h => absurd rfl h) (fun s' h => by show 3 + (lay s).val < 3 + _; have := hss s' h; omega) ha
    (wpE_waitDma2_eq 𝒱₀ (c : Thread nD τ) none Set.univ)

/-- The wait on send cell `s`: the share of the row comes back. -/
theorem wp_wait_snd {α : Type} {Q : α → sProp 𝕄} (c : Dev nD) (s : Fin 21) (ss : List (Fin 21)) (sem : DmaSem sig) (hs : sndS s = sem)
    {sp sp' : Space} {sh sh' : Shape} {e e' : EltTy} {src : Memref sig .tc sp sh e} {dst : Memref sig .tc sp' sh' e'}
    {h1 h2} (ha : dst.view.dmaCredit = N) {kk : PUnit → Prog (TpuEff nD τ sig (Elt F) Λ₀ .tc) α} :
    iprop(ctx m K ∗ owesE c (owed c [] ss) ∗ cred (tallyAt (cell c (kSnd s)) () N) ∗ atPos ER (cell c (kSnd s)) 0 ∅ 0)
      ⊢ iprop(((owesE c (owed c [] ss) ∗ semVal (cell c (kSnd s)) 0 ∗ srcPts c (lay s) (shr (hop s).castSucc) (sbuf m c)) -∗ WP c (kk ⟨⟩) Q)
          -∗ WP c (.op (.waitDma2 sem src dst h1 h2) kk) Q) := by
  subst hs
  exact wp_wait_cell m K c (kSnd s) [] ss (fun h => absurd rfl h) (fun s' h => by show 0 < 3 + _; omega) ha
    (wpE_waitDma2_eq 𝒱₀ (c : Thread nD τ) none Set.univ)

/-- The copy of row `lay s` into slot `s` of the peer's receive buffer. -/
theorem wp_send_slot {α : Type} {Q : α → sProp 𝕄} (c n : Dev nD) (s : Fin 21) (hn : n = peer (hop s) c) (ss : List (Fin 21)) (sS sV : DmaSem sig) (hS : sndS s = sS) (hV : rcvS s = sV)
    {src : Memref sig .tc .vmem S128x128 .bf16} (hsrc : srcM (lay s) = src) {dst : Memref sig .tc .vmem S128x128 .bf16} (hdst : dstM s = dst)
    {hsc : (dst : Memref sig (Dev.tc n : Thread nD τ).2.kind .vmem S128x128 .bf16).view.ref.isScScratch = false}
    {h1 : src.view.WordExact} {h2 : dst.view.WordExact}
    {h3 : DmaTarget.Typed .vmem (.dma sV) (.remote (Dev.tc n : Thread nD τ) (dst : Memref sig (Dev.tc n : Thread nD τ).2.kind .vmem S128x128 .bf16) (.dma sS) hsc)}
    {k : PUnit → Prog (TpuEff nD τ sig (Elt F) Λ₀ .tc) α} :
    iprop(ctx m K ∗ owesE c (owed c [] (s :: ss)) ∗ srcPts c (lay s) (shr (hop s).castSucc) (sbuf m c) ∗ dstAny (F := F) (peer (hop s) c) s
        ∗ dutyTok ER (cell c (kSnd s)) 0 () ∗ dutyTok ER (cell (peer (hop s) c) (kRcv s)) 0 ())
      ⊢ iprop(((owesE c (owed c [] ss) ∗ cred (tallyAt (cell c (kSnd s)) () N)) -∗ WP c (k ⟨⟩) Q)
          -∗ WP c (.op (.enqueueDma src (.remote (Dev.tc n : Thread nD τ) dst (.dma sS) hsc) (.dma sV) h1 h2 h3) k) Q) := by
  subst hn; subst hS; subst hV; subst hsrc; subst hdst
  unfold owesE dstAny
  iintro ⟨#HC, ⟨%W, HO⟩, Hs, ⟨%fd, Hd⟩, Ht1, Ht2⟩ Hk
  iapply (Rounds.wp_send_pointsTo 𝒱₀ ER (Rd m) (c : Thread nD τ) none (κ₁ := K (c, kSnd s)) (κ₂ := K (peer (hop s) c, kRcv s))
    (r₁ := 0) (r₂ := 0) (d₁ := ()) (d₂ := ()) (fs := sbuf m c) (fd := fd) (q := shr (hop s).castSucc)
    (mem_duties m c (kSnd s)) (mem_duties m (peer (hop s) c) (kRcv s)) () () N rfl (amount_cell m c (kSnd s) ()) (amount_cell m (peer (hop s) c) (kRcv s) ())
    (owed c [] ss) (owed_consV c [] s ss) (W := W)
    (by rw [payload_cell m c (kSnd s)]; exact BI.Entails.refl _)
    (by rw [payload_cell m (peer (hop s) c) (kRcv s)]; exact Entails.of_eq (landed m c s fd))) $$ [HO Hs Hd Ht1 Ht2]
  · isplitr; · iapply (ctx_inv m K c (kSnd s)); iexact HC
    isplitr; · iapply (ctx_inv m K (peer (hop s) c) (kRcv s)); iexact HC
    isplitl [Hs]; · unfold srcPts; iexact Hs
    isplitl [Hd]; · unfold dstPts; iexact Hd
    isplitl [HO]; · iexact HO
    isplitl [Ht1]; · iexact Ht1
    isplitr; · iapply (ctx_reached m K c (kSnd s)); iexact HC
    isplitl [Ht2]; · iexact Ht2
    iapply (ctx_reached m K (peer (hop s) c) (kRcv s)); iexact HC
  iintro ⟨Hc, HO⟩
  iapply Hk
  isplitl [HO]; · iexists W; iexact HO
  iexact Hc

/-- A load of slot `s` once the peer's block is there. -/
theorem wp_load_slot {α : Type} {Q : α → sProp 𝕄} (c : Dev nD) (s : Fin 21) {r : Rect S21x128x128} (hr : rectR s = r) {hl : rcvM.view.LoadsAt r.toLoadRect}
    {k : (r.toLoadRect.shape.Idx → Elt F .bf16) → Prog (TpuEff nD τ sig (Elt F) Λ₀ .tc) α} :
    dstPts c s (rbuf m c)
      ⊢ iprop((dstPts c s (rbuf m c) -∗ WP c (k (hr ▸ (blk m (lay s) (peer (hop s) c) : (rectR s).shape.Idx → Elt F .bf16))) Q)
          -∗ WP c (.op (.load rcvM r.toLoadRect hl) k) Q) := by
  subst hr
  unfold dstPts
  iintro H Hk
  iapply (wp_load_rect 𝒱₀ (c : Thread nD τ) none Set.univ (m := rcvM) (r := rectR s) (S := (dstM s).view.set) (le_of_eq (acc_dst s))) $$ H
  iintro H
  rw [read_slot]
  iapply Hk
  iexact H

/-- A load of row `l` of the send buffer, whatever it holds. -/
theorem wp_load_row {α : Type} {Q : α → sProp 𝕄} (c : Dev nD) (l : Fin 3) {r : Rect S3x128x128} (hr : rectS l = r) {hl : sndM.view.LoadsAt r.toLoadRect}
    {k : (r.toLoadRect.shape.Idx → Elt F .bf16) → Prog (TpuEff nD τ sig (Elt F) Λ₀ .tc) α} {f} :
    srcPts c l fullShare f
      ⊢ iprop((∀ v, srcPts c l fullShare f -∗ WP c (k v) Q) -∗ WP c (.op (.load sndM r.toLoadRect hl) k) Q) := by
  subst hr
  unfold srcPts
  iintro H Hk
  iapply (wp_load_rect 𝒱₀ (c : Thread nD τ) none Set.univ (m := sndM) (r := rectS l) (S := (srcM l).view.set) (le_of_eq (acc_src l))) $$ H
  iintro H
  iapply Hk
  iexact H

/-- The store of layer `l`'s block into row `l` of the send buffer. -/
theorem wp_store_row {α : Type} {Q : α → sProp 𝕄} (c : Dev nD) (l : Fin 3) {r : Rect S3x128x128} (hr : rectS l = r) {w : r.shape.Idx → Elt F .bf16} {hx : (sndM.access r).Stores Finset.univ}
    {hm : (Finset.univ : Finset r.shape.Idx) = Finset.univ ∨ ∀ a, r.stride a = 1} (hw : w = hr ▸ (blk m l c : (rectS l).shape.Idx → Elt F .bf16))
    {k : PUnit → Prog (TpuEff nD τ sig (Elt F) Λ₀ .tc) α} {f} :
    srcPts c l fullShare f
      ⊢ iprop((srcPts c l fullShare (sbuf m c) -∗ WP c (k ⟨⟩) Q) -∗ WP c (.op (.store sndM r w Finset.univ hx hm) k) Q) := by
  subst hr
  iintro H Hk
  ihave H' := (show srcPts c l fullShare f ⊢ ((srcM l).view.loc (c : Thread nD τ) ↦[(srcM l).view.set]{fullShare} f : sProp 𝕄) from BI.Entails.refl _) $$ H
  iapply (wp_store 𝒱₀ (c : Thread nD τ) none Set.univ (m := sndM) (r := rectS l) (Mk := Finset.univ) (S := (srcM l).view.set)
    (by rw [View.setOn_univ]; exact le_of_eq (acc_src l))) $$ H'
  iintro H
  iapply Hk
  iapply (Entails.of_eq (stored m c l f w hw))
  unfold srcPts
  iexact H

end Steps

end Cert.KernelIdeal.Run

end
-- ==== Proof.Ideal.State.lean ====
/-
What a device holds in the middle of its run, as one assertion over lists: which peers it has still to signal, which slots
it has still to send, to receive, to get back, and what it holds of its own and its peers' buffers. Each step of the
exchange moves one entry from one list to another.
-/
module

public import proofs.«01_k».proof.Proof.Ideal.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Assertions that entail each other are equal. -/
theorem eqv {P Q : sProp 𝕄} (h : P ⊢ Q) (h' : Q ⊢ P) : P = Q := BI.Entails.antisymm h h'

instance sep_commutative : _root_.Std.Commutative (α := sProp 𝕄) BIBase.sep := ⟨fun P Q => eqv Laws.sep_comm.1 Laws.sep_comm.1⟩
instance sep_associative : _root_.Std.Associative (α := sProp 𝕄) BIBase.sep := ⟨fun P Q R => eqv Laws.sep_assoc.1 Laws.sep_assoc.2⟩

/-- To signal the hop-`k` peer ready: the duty's token and the three slots that peer fills. -/
def SigR (c : Dev nD) (k : Fin 7) : sProp 𝕄 := iprop(dutyTok ER (cell (peer k c) (kRdy k)) 0 () ∗ dst3 (F := F) c k)
/-- To send slot `s`: both duties' tokens, and the position on the send cell. -/
def SndR (c : Dev nD) (s : Fin 21) : sProp 𝕄 :=
  iprop(dutyTok ER (cell c (kSnd s)) 0 () ∗ dutyTok ER (cell (peer (hop s) c) (kRcv s)) 0 () ∗ atPos ER (cell c (kSnd s)) 0 ∅ 0)
/-- To wait on ready cell `k`, on receive cell `s`, on send cell `s`: the credit and the position. -/
def RdyR (c : Dev nD) (k : Fin 7) : sProp 𝕄 := iprop(cred (tallyAt (cell c (kRdy k)) () 1) ∗ atPos ER (cell c (kRdy k)) 0 ∅ 0)
def RcvR (c : Dev nD) (s : Fin 21) : sProp 𝕄 := iprop(cred (tallyAt (cell c (kRcv s)) () N) ∗ atPos ER (cell c (kRcv s)) 0 ∅ 0)
def BckR (c : Dev nD) (s : Fin 21) : sProp 𝕄 := iprop(cred (tallyAt (cell c (kSnd s)) () N) ∗ atPos ER (cell c (kSnd s)) 0 ∅ 0)
/-- The share of the send buffer's row that the copy to slot `s` reads; slot `s` of the peer that `c` sends it to; the own slot
    `s` with the peer's block; a closed cell. -/
def ShrR (c : Dev nD) (s : Fin 21) : sProp 𝕄 := srcPts c (lay s) (shr (hop s).castSucc) (sbuf m c)
def PeerR (c : Dev nD) (s : Fin 21) : sProp 𝕄 := dstAny (F := F) (peer (hop s) c) s
def GotR (c : Dev nD) (s : Fin 21) : sProp 𝕄 := dstPts c s (rbuf m c)
def ZeroR (c : Dev nD) (x : Kx) : sProp 𝕄 := semVal (cell c x) 0

section
variable (K : Dev nD × Kx → ℕ)

/-- Device `c` in the middle of its run: `ks`, `ss` are what it owes; `wr`, `rv`, `bk` the ready, receive and send cells it has
    still to wait on; `d₀`, `d₁`, `d₂` the peers' slots in its hands; `sh`, `fr` the shares of its rows before their copies and
    after them; `gt` the filled slots; `z` the closed cells. -/
def St (c : Dev nD) (ks : List (Fin 7)) (ss : List (Fin 21)) (wr : List (Fin 7)) (d₀ d₁ d₂ sh rv bk gt fr : List (Fin 21)) (z : List Kx) : sProp 𝕄 :=
  iprop(ctx m K ∗ owesE c (owed c ks ss) ∗ sepL (SigR c) ks ∗ sepL (SndR c) ss ∗ sepL (RdyR c) wr ∗ sepL (PeerR c) d₀ ∗ sepL (PeerR c) d₁
    ∗ sepL (PeerR c) d₂ ∗ sepL (ShrR m c) sh ∗ sepL (RcvR c) rv ∗ sepL (BckR c) bk ∗ sepL (GotR m c) gt ∗ sepL (ShrR m c) fr ∗ sepL (ZeroR c) z)

omit [FloatOps F] in
/-- A step's rule, beside what it does not touch. -/
theorem lift {X A B W₁ W₂ R P P' : sProp 𝕄} [BI.Persistent X] (h : iprop(X ∗ A) ⊢ iprop((B -∗ W₁) -∗ W₂)) (e₁ : P = iprop(X ∗ A ∗ R))
    (e₂ : iprop(X ∗ B ∗ R) = P') : P ⊢ iprop((P' -∗ W₁) -∗ W₂) := by
  subst e₁; subst e₂
  iintro ⟨#HX, HA, HR⟩ Hk
  iapply h $$ [HA]
  · isplitr; · iexact HX
    iexact HA
  iintro HB
  iapply Hk
  isplitr; · iexact HX
  isplitl [HB] <;> iassumption

variable {α : Type} {ks : List (Fin 7)} {ss : List (Fin 21)} {wr : List (Fin 7)} {d₀ d₁ d₂ sh rv bk gt fr : List (Fin 21)} {z : List Kx}

theorem st_sig_rdy {Q : α → sProp 𝕄} (c n : Dev nD) (k : Fin 7) (sem : Sem sig) (hs : rdyS k = sem) (hn : n = peer k c)
    {k' : ℕ} (hk : k' = 1) {kk : PUnit → Prog (TpuEff nD τ sig (Elt F) Λ₀ .tc) α} :
    St m K c (k :: ks) ss wr d₀ d₁ d₂ sh rv bk gt fr z
      ⊢ iprop((St m K c ks ss wr d₀ d₁ d₂ sh rv bk gt fr z -∗ WP c (kk ⟨⟩) Q) -∗ WP c (.op (.semSignal (n : Thread nD τ) sem k') kk) Q) :=
  lift (R := iprop(sepL (SigR c) ks ∗ sepL (SndR c) ss ∗ sepL (RdyR c) wr ∗ sepL (PeerR c) d₀ ∗ sepL (PeerR c) d₁ ∗ sepL (PeerR c) d₂ ∗ sepL (ShrR m c) sh ∗ sepL (RcvR c) rv ∗ sepL (BckR c) bk ∗ sepL (GotR m c) gt ∗ sepL (ShrR m c) fr ∗ sepL (ZeroR c) z))
    (wp_sig_rdy m K c n k sem hs hn ks ss hk) (by unfold St; rw [sepL_cons, SigR]; ac_rfl) (by unfold St; ac_rfl)

theorem st_wait_rdy {Q : α → sProp 𝕄} (c : Dev nD) (k : Fin 7) (sem : Sem sig) (hs : rdyS k = sem)
    {s₀ s₁ s₂ : Fin 21} (h₀ : slot 0 k = s₀) (h₁ : slot 1 k = s₁) (h₂ : slot 2 k = s₂)
    {k' : ℕ} (ha : k' = 1) {kk : PUnit → Prog (TpuEff nD τ sig (Elt F) Λ₀ .tc) α} :
    St m K c [] ss (k :: wr) d₀ d₁ d₂ sh rv bk gt fr z
      ⊢ iprop((St m K c [] ss wr (s₀ :: d₀) (s₁ :: d₁) (s₂ :: d₂) sh rv bk gt fr (kRdy k :: z) -∗ WP c (kk ⟨⟩) Q)
          -∗ WP c (.op (.semWait sem k') kk) Q) := by
  subst h₀; subst h₁; subst h₂
  exact lift (R := iprop(sepL (SigR c) [] ∗ sepL (SndR c) ss ∗ sepL (RdyR c) wr ∗ sepL (PeerR c) d₀ ∗ sepL (PeerR c) d₁ ∗ sepL (PeerR c) d₂ ∗ sepL (ShrR m c) sh ∗ sepL (RcvR c) rv ∗ sepL (BckR c) bk ∗ sepL (GotR m c) gt ∗ sepL (ShrR m c) fr ∗ sepL (ZeroR c) z))
    (wp_wait_rdy m K c k ss sem hs ha) (by unfold St; rw [sepL_cons, RdyR]; ac_rfl)
    (by unfold St; rw [sepL_cons, sepL_cons, sepL_cons, sepL_cons, PeerR, PeerR, PeerR, ZeroR, hop_slot, hop_slot, hop_slot, dst3]; ac_rfl)

theorem st_send {Q : α → sProp 𝕄} (c n : Dev nD) (s : Fin 21) (hn : n = peer (hop s) c) (sS sV : DmaSem sig) (hS : sndS s = sS) (hV : rcvS s = sV)
    {src : Memref sig .tc .vmem S128x128 .bf16} (hsrc : srcM (lay s) = src) {dst : Memref sig .tc .vmem S128x128 .bf16} (hdst : dstM s = dst)
    {hsc : (dst : Memref sig (Dev.tc n : Thread nD τ).2.kind .vmem S128x128 .bf16).view.ref.isScScratch = false}
    {h1 : src.view.WordExact} {h2 : dst.view.WordExact}
    {h3 : DmaTarget.Typed .vmem (.dma sV) (.remote (Dev.tc n : Thread nD τ) (dst : Memref sig (Dev.tc n : Thread nD τ).2.kind .vmem S128x128 .bf16) (.dma sS) hsc)}
    {k : PUnit → Prog (TpuEff nD τ sig (Elt F) Λ₀ .tc) α} :
    St m K c [] (s :: ss) wr (s :: d₀) d₁ d₂ (s :: sh) rv bk gt fr z
      ⊢ iprop((St m K c [] ss wr d₀ d₁ d₂ sh rv (s :: bk) gt fr z -∗ WP c (k ⟨⟩) Q)
          -∗ WP c (.op (.enqueueDma src (.remote (Dev.tc n : Thread nD τ) dst (.dma sS) hsc) (.dma sV) h1 h2 h3) k) Q) :=
  lift (R := iprop(atPos ER (cell c (kSnd s)) 0 ∅ 0 ∗ sepL (SigR c) [] ∗ sepL (SndR c) ss ∗ sepL (RdyR c) wr ∗ sepL (PeerR c) d₀ ∗ sepL (PeerR c) d₁
    ∗ sepL (PeerR c) d₂ ∗ sepL (ShrR m c) sh ∗ sepL (RcvR c) rv ∗ sepL (BckR c) bk ∗ sepL (GotR m c) gt ∗ sepL (ShrR m c) fr ∗ sepL (ZeroR c) z))
    (wp_send_slot m K c n s hn ss sS sV hS hV hsrc hdst) (by unfold St; rw [sepL_cons, sepL_cons, sepL_cons, SndR, PeerR, ShrR]; ac_rfl)
    (by unfold St; rw [sepL_cons (BckR c), BckR]; ac_rfl)

theorem st_wait_rcv {Q : α → sProp 𝕄} (c : Dev nD) (s : Fin 21) (hss : ∀ s' ∈ ss, lay s < lay s') (sem : DmaSem sig) (hs : rcvS s = sem)
    {src dst : Memref sig .tc .vmem S128x128 .bf16} (hdst : dstM s = dst) {h1 h2} {kk : PUnit → Prog (TpuEff nD τ sig (Elt F) Λ₀ .tc) α} :
    St m K c [] ss wr d₀ d₁ d₂ sh (s :: rv) bk gt fr z
      ⊢ iprop((St m K c [] ss wr d₀ d₁ d₂ sh rv bk (s :: gt) fr (kRcv s :: z) -∗ WP c (kk ⟨⟩) Q)
          -∗ WP c (.op (.waitDma2 sem src dst h1 h2) kk) Q) :=
  lift (R := iprop(sepL (SigR c) [] ∗ sepL (SndR c) ss ∗ sepL (RdyR c) wr ∗ sepL (PeerR c) d₀ ∗ sepL (PeerR c) d₁ ∗ sepL (PeerR c) d₂ ∗ sepL (ShrR m c) sh ∗ sepL (RcvR c) rv ∗ sepL (BckR c) bk ∗ sepL (GotR m c) gt ∗ sepL (ShrR m c) fr ∗ sepL (ZeroR c) z))
    (wp_wait_rcv m K c s ss hss sem hs (by subst hdst; rfl)) (by unfold St; rw [sepL_cons (RcvR c), RcvR]; ac_rfl)
    (by unfold St; rw [sepL_cons (GotR m c), sepL_cons (ZeroR c), GotR, ZeroR]; ac_rfl)

theorem st_wait_snd {Q : α → sProp 𝕄} (c : Dev nD) (s : Fin 21) (sem : DmaSem sig) (hs : sndS s = sem)
    {src dst : Memref sig .tc .vmem S128x128 .bf16} (hdst : srcM (lay s) = dst) {h1 h2} {kk : PUnit → Prog (TpuEff nD τ sig (Elt F) Λ₀ .tc) α} :
    St m K c [] ss wr d₀ d₁ d₂ sh rv (s :: bk) gt fr z
      ⊢ iprop((St m K c [] ss wr d₀ d₁ d₂ sh rv bk gt (s :: fr) (kSnd s :: z) -∗ WP c (kk ⟨⟩) Q)
          -∗ WP c (.op (.waitDma2 sem src dst h1 h2) kk) Q) :=
  lift (R := iprop(sepL (SigR c) [] ∗ sepL (SndR c) ss ∗ sepL (RdyR c) wr ∗ sepL (PeerR c) d₀ ∗ sepL (PeerR c) d₁ ∗ sepL (PeerR c) d₂ ∗ sepL (ShrR m c) sh ∗ sepL (RcvR c) rv ∗ sepL (BckR c) bk ∗ sepL (GotR m c) gt ∗ sepL (ShrR m c) fr ∗ sepL (ZeroR c) z))
    (wp_wait_snd m K c s ss sem hs (by subst hdst; rfl)) (by unfold St; rw [sepL_cons (BckR c), BckR]; ac_rfl)
    (by unfold St; rw [sepL_cons (ShrR m c) s fr, sepL_cons (ZeroR c), ShrR, ZeroR]; ac_rfl)

/-- A load of the slot filled last. -/
theorem st_load {Q : α → sProp 𝕄} (c : Dev nD) (s : Fin 21) {hl : rcvM.view.LoadsAt (rectR s).toLoadRect}
    {k : ((rectR s).toLoadRect.shape.Idx → Elt F .bf16) → Prog (TpuEff nD τ sig (Elt F) Λ₀ .tc) α} :
    St m K c ks ss wr d₀ d₁ d₂ sh rv bk (s :: gt) fr z
      ⊢ iprop((St m K c ks ss wr d₀ d₁ d₂ sh rv bk (s :: gt) fr z -∗ WP c (k (blk m (lay s) (peer (hop s) c))) Q)
          -∗ WP c (.op (.load rcvM (rectR s).toLoadRect hl) k) Q) :=
  lift (X := ctx m K) (R := iprop(owesE c (owed c ks ss) ∗ sepL (SigR c) ks ∗ sepL (SndR c) ss ∗ sepL (RdyR c) wr ∗ sepL (PeerR c) d₀ ∗ sepL (PeerR c) d₁ ∗ sepL (PeerR c) d₂ ∗ sepL (ShrR m c) sh ∗ sepL (RcvR c) rv ∗ sepL (BckR c) bk ∗ sepL (GotR m c) gt ∗ sepL (ShrR m c) fr ∗ sepL (ZeroR c) z))
    (Laws.sep_elim_right.trans (wp_load_slot m c s rfl)) (by unfold St; rw [sepL_cons (GotR m c), GotR]; ac_rfl)
    (by unfold St; rw [sepL_cons (GotR m c), GotR]; ac_rfl)

omit [FloatOps F] in
theorem sepL_perm {ι : Type} (Φ : ι → sProp 𝕄) {l l' : List ι} (h : l.Perm l') : sepL Φ l = sepL Φ l' := by
  induction h with
  | nil => rfl
  | cons a _ ih => rw [sepL_cons, sepL_cons, ih]
  | swap a b l => rw [sepL_cons, sepL_cons, sepL_cons, sepL_cons]; ac_rfl
  | trans _ _ h₁ h₂ => exact h₁.trans h₂

/-- The send cells may be waited on in any order. -/
theorem st_bk (c : Dev nD) {bk' : List (Fin 21)} (h : bk.Perm bk') :
    St m K c ks ss wr d₀ d₁ d₂ sh rv bk gt fr z = St m K c ks ss wr d₀ d₁ d₂ sh rv bk' gt fr z := by
  unfold St; rw [sepL_perm (BckR c) h]
/-- The next layer's slots move up. -/
theorem st_next (c : Dev nD) {d : List (Fin 21)} (h : d₁.Perm d) :
    St m K c ks ss wr [] d₁ d₂ sh rv bk gt fr z = St m K c ks ss wr d d₂ [] sh rv bk gt fr z := by
  unfold St; rw [sepL_perm (PeerR c) h, sepL_nil]; ac_rfl

/-- What is left of row `l` beside the shares its copies read. -/
def rowRest (c : Dev nD) (l : Fin 3) : sProp 𝕄 := srcPts c l (shr 7) (sbuf m c)

theorem row_leaves (c : Dev nD) (l : Fin 3) :
    srcPts c l fullShare (sbuf m c) = bigSep Finset.univ (fun i : Fin (2 ^ 3) => (srcPts c l (shr i) (sbuf m c) : sProp 𝕄)) :=
  ShareLeaves.pointsTo_leaves (Ix := Unit) (Name := ℕ) (U := UU) (Lvl := ℕ) (ℓ := (srcM l).view.loc (c : Thread nD τ)) (srcM l).view.set
    (sbuf m c) 3 fullShare

theorem shrR_eq (c : Dev nD) (s : Fin 21) (l : Fin 3) (h : lay s = l) : ShrR m c s = srcPts c l (shr (hop s).castSucc) (sbuf m c) := by
  subst h; rfl

/-- A whole row is the seven shares its copies read, and the rest. -/
theorem row_shares (c : Dev nD) (l : Fin 3) (ss : List (Fin 21)) (h : ss.map hop = hops) (hl : ∀ s ∈ ss, lay s = l) :
    srcPts c l fullShare (sbuf m c) = iprop(sepL (ShrR m c) ss ∗ rowRest m c l) := by
  have e : ∀ ss : List (Fin 21), (∀ s ∈ ss, lay s = l) →
      sepL (ShrR m c) ss = sepL (fun i : Fin (2 ^ 3) => srcPts c l (shr i) (sbuf m c)) ((ss.map hop).map Fin.castSucc) := by
    intro ss
    induction ss with
    | nil => intro _; rfl
    | cons s ss ih =>
      intro hl
      rw [sepL_cons, List.map_cons, List.map_cons, sepL_cons, ih fun s' h' => hl s' (List.mem_cons_of_mem _ h'),
        shrR_eq m c s l (hl s List.mem_cons_self)]
  have hh : hops.map Fin.castSucc = ([0, 2, 3, 1, 4, 6, 5] : List (Fin (2 ^ 3))) := by decide
  rw [e ss hl, h, hh]
  generalize hg : (fun i : Fin (2 ^ 3) => (srcPts c l (shr i) (sbuf m c) : sProp 𝕄)) = g
  have h7 : rowRest m c l = g 7 := by rw [← hg]; rfl
  rw [h7, row_leaves m c l, hg, sepL_univ g [7, 0, 2, 3, 1, 4, 6, 5] (by decide) (by decide), sepL_cons g 7]
  exact eqv Laws.sep_comm.1 Laws.sep_comm.1

/-- The next layer's row is stored and its shares are at hand. -/
theorem st_row (c : Dev nD) (l : Fin 3) (new : List (Fin 21)) (h : new.map hop = hops) (hl : ∀ s ∈ new, lay s = l) :
    iprop(St m K c ks ss wr d₀ d₁ d₂ [] rv bk gt fr z ∗ srcPts c l fullShare (sbuf m c))
      ⊢ iprop(St m K c ks ss wr d₀ d₁ d₂ new rv bk gt fr z ∗ rowRest m c l) := by
  rw [row_shares m c l new h hl]
  unfold St
  rw [sepL_nil]
  iintro ⟨⟨H1, H2, H3, H4, H5, H6, H7, H8, -, H9, H10, H11, H12, H13⟩, H14, H15⟩
  iframe

end

end Cert.KernelIdeal.Run

end
-- ==== Proof.Ideal.Body.lean ====
/-
The run of the kernel's body on one device, effect by effect, from what the launch hands the device to what it gives back.
-/
module

public import proofs.«01_k».proof.Proof.Ideal.State

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
variable (K : Dev nD × Kx → ℕ)

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := wp_bind ..

theorem WP_ret (c : Dev nD) {α : Type} (a : α) (Q : α → sProp 𝕄) : Q a ⊢ WP c (.ret a) Q := by
  refine BIBase.Entails.trans ?_ (Entails.of_eq (wp_ret _ _ _ a Q).symm)
  iintro H
  imodintro
  iexact H

theorem WP_dev (c : Dev nD) {α : Type} (k : Dev nD → Prog (TpuEff nD τ sig (Elt F) Λ₀ .tc) α) (Q : α → sProp 𝕄) :
    WP c (.op .deviceId k) Q = WP c (k c) Q := wp_deviceId ..

/-- Row `l` of the send buffer at some contents. -/
def rowAny (c : Dev nD) (l : Fin 3) : sProp 𝕄 := iprop(∃ f, srcPts (F := F) c l fullShare f)

def xPts (c : Dev nD) : sProp 𝕄 := xM.view.loc (c : Thread nD τ) ↦{fullShare} xs m c
def wPts (c : Dev nD) : sProp 𝕄 := wM.view.loc (c : Thread nD τ) ↦{fullShare} ws m c

/-- What the launch hands device `c` beside its windows. -/
def Pre (c : Dev nD) : sProp 𝕄 :=
  iprop((dutyTok ER (cell c kBar) 0 () ∗ cred (tallyAt (cell c kBar) () 1) ∗ atPos ER (cell c kBar) 0 ∅ 0)
    ∗ (sepL (SigR c) ranks ∗ sepL (SndR c) (slots0 ++ slots1 ++ slots2) ∗ sepL (RdyR c) hops ∗ sepL (RcvR c) (slots0 ++ slots1 ++ slots2))
    ∗ (dutyTok ER (cell c kOut) 0 () ∗ atPos ER (cell c kOut) 0 ∅ 0)
    ∗ (rowAny c 0 ∗ rowAny c 1 ∗ rowAny c 2) ∗ (∃ f, resPts c f) ∗ (∃ f, outPts c f))

/-- A load of the input, and of 128 rows of the weights. -/
theorem wp_load_x {α : Type} {Q : α → sProp 𝕄} (c : Dev nD) {hl : xM.view.LoadsAt rectX.toLoadRect}
    {k : (rectX.toLoadRect.shape.Idx → Elt F .bf16) → Prog (TpuEff nD τ sig (Elt F) Λ₀ .tc) α} :
    xPts m c ⊢ iprop((xPts m c -∗ WP c (k (xv m c)) Q) -∗ WP c (.op (.load xM rectX.toLoadRect hl) k) Q) := by
  unfold xPts
  iintro H Hk
  iapply (wp_load 𝒱₀ (c : Thread nD τ) none Set.univ (m := xM) (S := Finset.univ) (Finset.subset_univ _)) $$ H
  iintro H
  iapply Hk
  iexact H

theorem wp_load_w {α : Type} {Q : α → sProp 𝕄} (c : Dev nD) {r : ℕ} {h : ∀ a, (![r, 0] : Fin 2 → Nat) a + S128x256.size a ≤ S768x256.size a}
    {hl : wM.view.LoadsAt (Rect.unit (s := S768x256) ![r, 0] S128x256.size h).toLoadRect}
    {k : ((Rect.unit (s := S768x256) ![r, 0] S128x256.size h).toLoadRect.shape.Idx → Elt F .bf16) → Prog (TpuEff nD τ sig (Elt F) Λ₀ .tc) α} :
    wPts m c ⊢ iprop((wPts m c -∗ WP c (k (wv m c r h)) Q)
      -∗ WP c (.op (.load wM (Rect.unit (s := S768x256) ![r, 0] S128x256.size h).toLoadRect hl) k) Q) := by
  unfold wPts
  iintro H Hk
  iapply (wp_load 𝒱₀ (c : Thread nD τ) none Set.univ (m := wM) (S := Finset.univ) (Finset.subset_univ _)) $$ H
  iintro H
  iapply Hk
  iexact H

/-- A load of the result's staging buffer, whatever it holds, and the store of the result into it. -/
theorem wp_load_res {α : Type} {Q : α → sProp 𝕄} (c : Dev nD) {hl : resM.view.LoadsAt rectX.toLoadRect}
    {k : (rectX.toLoadRect.shape.Idx → Elt F .f32) → Prog (TpuEff nD τ sig (Elt F) Λ₀ .tc) α} {f} :
    resPts c f ⊢ iprop((∀ v, resPts c f -∗ WP c (k v) Q) -∗ WP c (.op (.load resM rectX.toLoadRect hl) k) Q) := by
  have hu : resM.view.set = Finset.univ := View.set_whole _
  unfold resPts
  rw [hu]
  iintro H Hk
  iapply (wp_load 𝒱₀ (c : Thread nD τ) none Set.univ (m := resM) (S := Finset.univ) (Finset.subset_univ _)) $$ H
  iintro H
  iapply Hk
  iexact H

theorem wp_store_res {α : Type} {Q : α → sProp 𝕄} (c : Dev nD) {w : rectX.shape.Idx → Elt F .f32} {hx : (resM.access rectX).Stores Finset.univ}
    {hm : (Finset.univ : Finset rectX.shape.Idx) = Finset.univ ∨ ∀ a, rectX.stride a = 1} (hw : w = resv m c)
    {k : PUnit → Prog (TpuEff nD τ sig (Elt F) Λ₀ .tc) α} {f} :
    resPts c f ⊢ iprop((resPts c (resv m c) -∗ WP c (k ⟨⟩) Q) -∗ WP c (.op (.store resM rectX w Finset.univ hx hm) k) Q) := by
  subst hw
  have hu : resM.view.set = Finset.univ := View.set_whole _
  unfold resPts
  rw [hu]
  iintro H Hk
  iapply (wp_store 𝒱₀ (c : Thread nD τ) none Set.univ (m := resM) (r := rectX) (Mk := Finset.univ) (S := Finset.univ) (Finset.subset_univ _)) $$ H
  iintro H
  have e : (resM.access rectX).write (Elt F) f (resv m c) Finset.univ = resv m c :=
    Memref.write_access_unit_zero_univ (Elt F) cc0_scratch5 (by funext a; fin_cases a <;> rfl) _ f (resv m c)
  rw [e]
  iapply Hk
  iexact H

/-- The result's copy out, and its wait. -/
theorem wp_copy_out {α : Type} {Q : α → sProp 𝕄} (c : Dev nD) (sem : DmaSem sig) (hs : outS = sem)
    {h1 : resM.view.WordExact} {h2 : outM.view.WordExact} {h3 : DmaTarget.Typed (nD := nD) .vmem (.dma sem) (DmaTarget.here (p := (Dev.tc c : Thread nD τ).2) outM)}
    {k : PUnit → Prog (TpuEff nD τ sig (Elt F) Λ₀ .tc) α} :
    iprop(ctx m K ∗ resPts c (resv m c) ∗ (∃ f, outPts c f) ∗ dutyTok ER (cell c kOut) 0 ())
      ⊢ iprop((cred (tallyAt (cell c kOut) () NO) -∗ WP c (k ⟨⟩) Q) -∗ WP c (.op (.enqueueDma resM (.here outM) (.dma sem) h1 h2 h3) k) Q) := by
  subst hs
  iintro ⟨#HC, Hr, ⟨%f, Ho⟩, Ht⟩ Hk
  iapply (Rounds.wp_copy_pointsTo 𝒱₀ ER (Rd m) (c : Thread nD τ) none (κ := K (c, kOut)) (r := 0) (d := ()) (fs := resv m c) (fd := f)
    (q := fullShare) (mem_duties m c kOut) () NO rfl (amount_cell m c kOut ())
    (by
      rw [payload_cell m c kOut]
      unfold pay resPts outPts
      refine Entails.of_eq ?_
      have e : outM.view.write (Elt F) f (resM.view.read (Elt F) (resv m c)) Finset.univ = resv m c :=
        View.write_whole_univ main_v1 f (resv m c)
      rw [e])) $$ [Hr Ho Ht]
  · isplitr; · iapply (ctx_inv m K c kOut); iexact HC
    isplitl [Hr]; · unfold resPts; iexact Hr
    isplitl [Ho]; · unfold outPts; iexact Ho
    isplitl [Ht]; · iexact Ht
    iapply (ctx_reached m K c kOut); iexact HC
  iexact Hk

theorem wp_wait_out {α : Type} {Q : α → sProp 𝕄} (c : Dev nD) (sem : DmaSem sig) (hs : outS = sem)
    {sp sp' : Space} {sh sh' : Shape} {e e' : EltTy} {src : Memref sig .tc sp sh e} {dst : Memref sig .tc sp' sh' e'}
    {h1 h2} (ha : dst.view.dmaCredit = NO) {kk : PUnit → Prog (TpuEff nD τ sig (Elt F) Λ₀ .tc) α} :
    iprop(ctx m K ∗ owesE c (owed c [] []) ∗ cred (tallyAt (cell c kOut) () NO) ∗ atPos ER (cell c kOut) 0 ∅ 0)
      ⊢ iprop(((owesE c (owed c [] []) ∗ semVal (cell c kOut) 0 ∗ outPts c (resv m c) ∗ resPts c (resv m c)) -∗ WP c (kk ⟨⟩) Q)
          -∗ WP c (.op (.waitDma2 sem src dst h1 h2) kk) Q) := by
  subst hs
  exact wp_wait_cell m K c kOut [] [] (fun h => absurd rfl h) (fun s' h => absurd h List.not_mem_nil) ha
    (wpE_waitDma2_eq 𝒱₀ (c : Thread nD τ) none Set.univ)

/-- The cells in the order the run closes them, latest first. -/
def zs : List Kx :=
  (slots2.map kSnd).reverse ++ (slots2.map kRcv).reverse ++ (slots1.map kSnd).reverse ++ (slots1.map kRcv).reverse
    ++ (slots0.map kSnd).reverse ++ (slots0.map kRcv).reverse ++ (hops.map kRdy).reverse ++ [kBar]
/-- The slots in the order they are filled, latest first. -/
def gs : List (Fin 21) := slots2.reverse ++ slots1.reverse ++ slots0.reverse

/-- What device `c` gives back: every slot filled, every row whole again, every cell closed, the result in both its buffers. -/
def Post (c : Dev nD) : sProp 𝕄 :=
  iprop(St m K c [] [] [] [] [] [] [] [] [] gs gs zs ∗ semVal (cell c kOut) 0
    ∗ (rowRest m c 0 ∗ rowRest m c 1 ∗ rowRest m c 2) ∗ resPts c (resv m c) ∗ outPts c (resv m c))

set_option maxHeartbeats 4000000 in
set_option pp.deepTerms false in
set_option pp.deepTerms.threshold 4 in
set_option pp.proofs false in
set_option maxRecDepth 20000 in
theorem run_body (c : Dev nD) (Kt : PUnit → sProp 𝕄) :
    iprop(ctx m K ∗ owesE c (O₀ c) ∗ Pre c ∗ xPts m c ∗ wPts m c ∗ ((Post m K c ∗ xPts m c ∗ wPts m c) -∗ Kt ⟨⟩))
      ⊢ WP c (cc0_body (F := F) (Memref.whole cc0_stg0_0) (Memref.isWhole_whole _) (Memref.whole cc0_stg1_0) (Memref.isWhole_whole _)
            (Memref.whole main_v1) (Memref.isWhole_whole _) (Memref.whole cc0_scratch0) (Memref.isWhole_whole _)
            (Memref.whole cc0_scratch1) (Memref.isWhole_whole _) cc0_scratch2 cc0_scratch3 cc0_scratch4
            (Memref.whole cc0_scratch5) (Memref.isWhole_whole _) cc0_scratch6) Kt := by
  simp only [cc0_body_eq_skeleton]; unfold cc0_body_skel
  simp only [k0_part27_eq_skeleton]; unfold k0_part27_skel
  unfold Pre
  iintro ⟨#HC, HO, ⟨⟨HtB, HcB, HaB⟩, ⟨Hsig, Hsnd, Hrdy, Hrcv⟩, ⟨HtO, HaO⟩, ⟨Hr0, Hr1, Hr2⟩, Hres, Hout⟩, Hx, Hw, Hk⟩
  rw [WP_bind, WP_bind]
  simp only [k0_part1_eq_skeleton]; unfold k0_part1_skel
  simp only [semSignalWord, semWaitWord, Prog.lift, Prog.bind_op, Prog.bind_ret, Prog.pure_eq_ret, WP_dev]
  iapply (wp_sig_bar m K c _ _ rfl (Fin.ext (k0_dev1_eq c)) (owed c ranks (slots0 ++ slots1 ++ slots2)) rfl) $$ [HO HtB]
  · isplitr; · iexact HC
    isplitl [HO]; · iexact HO
    iexact HtB
  iintro HO
  iapply (wp_wait_bar m K c ranks (slots0 ++ slots1 ++ slots2) _ rfl rfl) $$ [HO HcB HaB]
  · isplitr; · iexact HC
    isplitl [HO]; · iexact HO
    isplitl [HcB] <;> iassumption
  iintro ⟨HO, HzB, -⟩
  ihave H := (show iprop(ctx m K ∗ owesE c (owed c ranks (slots0 ++ slots1 ++ slots2)) ∗ sepL (SigR c) ranks ∗ sepL (SndR c) (slots0 ++ slots1 ++ slots2)
      ∗ sepL (RdyR c) hops ∗ sepL (RcvR c) (slots0 ++ slots1 ++ slots2) ∗ semVal (cell c kBar) 0)
      ⊢ St m K c [0, 1, 2, 3, 4, 5, 6] [0, 2, 3, 1, 4, 6, 5, 7, 9, 10, 8, 11, 13, 12, 14, 16, 17, 15, 18, 20, 19] [0, 2, 3, 1, 4, 6, 5] [] [] [] []
        [0, 2, 3, 1, 4, 6, 5, 7, 9, 10, 8, 11, 13, 12, 14, 16, 17, 15, 18, 20, 19] [] [] [] [kBar] from by
    show _ ⊢ St m K c ranks (slots0 ++ slots1 ++ slots2) hops [] [] [] [] (slots0 ++ slots1 ++ slots2) [] [] [] [kBar]
    unfold St
    simp only [sepL_nil, sepL_cons (ZeroR c)]
    unfold ZeroR
    iintro ⟨H1, H2, H3, H4, H5, H6, H7⟩
    iframe) $$ [HO Hsig Hsnd Hrdy Hrcv HzB]
  · iframe HC HO Hsig Hsnd Hrdy Hrcv HzB
  iapply (st_sig_rdy m K c _ 0 _ rfl (by clear * - c; revert c; decide) rfl) $$ H; iintro H
  iapply (st_sig_rdy m K c _ 1 _ rfl (by clear * - c; revert c; decide) rfl) $$ H; iintro H
  iapply (st_sig_rdy m K c _ 2 _ rfl (by clear * - c; revert c; decide) rfl) $$ H; iintro H
  iapply (st_sig_rdy m K c _ 3 _ rfl (by clear * - c; revert c; decide) rfl) $$ H; iintro H
  iapply WP_ret; try dsimp only
  -- part 2
  rw [WP_bind]; simp only [k0_part2_eq_skeleton]; unfold k0_part2_skel
  simp only [semSignalWord, semWaitWord, Prog.lift, Prog.bind_op, Prog.bind_ret, Prog.pure_eq_ret]
  iapply (st_sig_rdy m K c _ 4 _ rfl (by clear * - c; revert c; decide) rfl) $$ H; iintro H
  iapply (st_sig_rdy m K c _ 5 _ rfl (by clear * - c; revert c; decide) rfl) $$ H; iintro H
  iapply (st_sig_rdy m K c _ 6 _ rfl (by clear * - c; revert c; decide) rfl) $$ H; iintro H
  iapply (wp_load_x m c) $$ Hx; iintro Hx
  iapply (wp_load_w m c) $$ Hw; iintro Hw
  iapply (wp_load_w m c) $$ Hw; iintro Hw
  unfold rowAny; icases Hr0 with ⟨%f0, Hr0⟩; icases Hr1 with ⟨%f1, Hr1⟩; icases Hr2 with ⟨%f2, Hr2⟩
  iapply (wp_load_row c 0 rfl) $$ Hr0; iintro %v0 Hr0
  iapply WP_ret; try dsimp only
  -- part 3
  rw [WP_bind]; simp only [k0_part3_eq_skeleton]; unfold k0_part3_skel
  simp only [semSignalWord, semWaitWord, Prog.lift, Prog.bind_op, Prog.bind_ret, Prog.pure_eq_ret]
  iapply (wp_store_row m c 0 rfl rfl) $$ Hr0; iintro Hr0
  icombine H Hr0 as H
  ihave H := (st_row m K c 0 [0, 2, 3, 1, 4, 6, 5] (by decide) (by decide)) $$ H; icases H with ⟨H, Hr0⟩
  iapply (st_wait_rdy m K c 0 _ rfl (s₀ := 0) (s₁ := 7) (s₂ := 14) rfl rfl rfl rfl) $$ H; iintro H
  iapply (st_send m K c _ 0 (by clear * - c; revert c; decide) _ _ rfl rfl rfl rfl) $$ H; iintro H
  iapply (st_wait_rdy m K c 2 _ rfl (s₀ := 2) (s₁ := 9) (s₂ := 16) rfl rfl rfl rfl) $$ H; iintro H
  iapply (st_send m K c _ 2 (by clear * - c; revert c; decide) _ _ rfl rfl rfl rfl) $$ H; iintro H
  iapply WP_ret; try dsimp only
  -- part 4
  rw [WP_bind]; simp only [k0_part4_eq_skeleton]; unfold k0_part4_skel
  simp only [semSignalWord, semWaitWord, Prog.lift, Prog.bind_op, Prog.bind_ret, Prog.pure_eq_ret]
  iapply (st_wait_rdy m K c 3 _ rfl (s₀ := 3) (s₁ := 10) (s₂ := 17) rfl rfl rfl rfl) $$ H; iintro H
  iapply (st_send m K c _ 3 (by clear * - c; revert c; decide) _ _ rfl rfl rfl rfl) $$ H; iintro H
  iapply (st_wait_rdy m K c 1 _ rfl (s₀ := 1) (s₁ := 8) (s₂ := 15) rfl rfl rfl rfl) $$ H; iintro H
  iapply (st_send m K c _ 1 (by clear * - c; revert c; decide) _ _ rfl rfl rfl rfl) $$ H; iintro H
  iapply WP_ret; try dsimp only
  -- part 5
  rw [WP_bind]; simp only [k0_part5_eq_skeleton]; unfold k0_part5_skel
  simp only [semSignalWord, semWaitWord, Prog.lift, Prog.bind_op, Prog.bind_ret, Prog.pure_eq_ret]
  iapply (st_wait_rdy m K c 4 _ rfl (s₀ := 4) (s₁ := 11) (s₂ := 18) rfl rfl rfl rfl) $$ H; iintro H
  iapply (st_send m K c _ 4 (by clear * - c; revert c; decide) _ _ rfl rfl rfl rfl) $$ H; iintro H
  iapply (st_wait_rdy m K c 6 _ rfl (s₀ := 6) (s₁ := 13) (s₂ := 20) rfl rfl rfl rfl) $$ H; iintro H
  iapply (st_send m K c _ 6 (by clear * - c; revert c; decide) _ _ rfl rfl rfl rfl) $$ H; iintro H
  iapply WP_ret; try dsimp only
  -- part 6
  rw [WP_bind]; simp only [k0_part6_eq_skeleton]; unfold k0_part6_skel
  simp only [semSignalWord, semWaitWord, Prog.lift, Prog.bind_op, Prog.bind_ret, Prog.pure_eq_ret]
  iapply (st_wait_rdy m K c 5 _ rfl (s₀ := 5) (s₁ := 12) (s₂ := 19) rfl rfl rfl rfl) $$ H; iintro H
  iapply (st_send m K c _ 5 (by clear * - c; revert c; decide) _ _ rfl rfl rfl rfl) $$ H; iintro H
  iapply (st_wait_rcv m K c 0 (by decide) _ rfl rfl) $$ H; iintro H
  iapply (st_load m K c 0) $$ H; iintro H
  iapply WP_ret; try dsimp only
  -- part 7
  rw [WP_bind]; simp only [k0_part7_eq_skeleton]; unfold k0_part7_skel
  simp only [semSignalWord, semWaitWord, Prog.lift, Prog.bind_op, Prog.bind_ret, Prog.pure_eq_ret]
  iapply (st_wait_rcv m K c 2 (by decide) _ rfl rfl) $$ H; iintro H
  iapply (st_load m K c 2) $$ H; iintro H
  iapply (st_wait_rcv m K c 3 (by decide) _ rfl rfl) $$ H; iintro H
  iapply (st_load m K c 3) $$ H; iintro H
  iapply WP_ret; try dsimp only
  -- part 8
  rw [WP_bind]; simp only [k0_part8_eq_skeleton]; unfold k0_part8_skel
  simp only [semSignalWord, semWaitWord, Prog.lift, Prog.bind_op, Prog.bind_ret, Prog.pure_eq_ret]
  iapply (st_wait_rcv m K c 1 (by decide) _ rfl rfl) $$ H; iintro H
  iapply (st_load m K c 1) $$ H; iintro H
  iapply (st_wait_rcv m K c 4 (by decide) _ rfl rfl) $$ H; iintro H
  iapply (st_load m K c 4) $$ H; iintro H
  iapply (st_wait_rcv m K c 6 (by decide) _ rfl rfl) $$ H; iintro H
  iapply (st_load m K c 6) $$ H; iintro H
  iapply WP_ret; try dsimp only
  -- part 9
  rw [WP_bind]; simp only [k0_part9_eq_skeleton]; unfold k0_part9_skel
  simp only [semSignalWord, semWaitWord, Prog.lift, Prog.bind_op, Prog.bind_ret, Prog.pure_eq_ret]
  iapply (wp_load_w m c) $$ Hw; iintro Hw
  iapply (st_wait_rcv m K c 5 (by decide) _ rfl rfl) $$ H; iintro H
  iapply (st_load m K c 5) $$ H; iintro H
  iapply (wp_load_w m c) $$ Hw; iintro Hw
  iapply (wp_load_w m c) $$ Hw; iintro Hw
  iapply WP_ret; try dsimp only
  -- part 10
  rw [WP_bind]; simp only [k0_part10_eq_skeleton]; unfold k0_part10_skel
  simp only [semSignalWord, semWaitWord, Prog.lift, Prog.bind_op, Prog.bind_ret, Prog.pure_eq_ret]
  ihave H := (Entails.of_eq (st_bk m K c (bk' := [0, 2, 3, 1, 4, 6, 5]) (by decide))) $$ H
  iapply (st_wait_snd m K c 0 _ rfl rfl) $$ H; iintro H
  iapply (st_wait_snd m K c 2 _ rfl rfl) $$ H; iintro H
  iapply (st_wait_snd m K c 3 _ rfl rfl) $$ H; iintro H
  iapply (st_wait_snd m K c 1 _ rfl rfl) $$ H; iintro H
  iapply WP_ret; try dsimp only
  -- part 11
  rw [WP_bind]; simp only [k0_part11_eq_skeleton]; unfold k0_part11_skel
  simp only [semSignalWord, semWaitWord, Prog.lift, Prog.bind_op, Prog.bind_ret, Prog.pure_eq_ret]
  iapply (st_wait_snd m K c 4 _ rfl rfl) $$ H; iintro H
  iapply (st_wait_snd m K c 6 _ rfl rfl) $$ H; iintro H
  iapply (st_wait_snd m K c 5 _ rfl rfl) $$ H; iintro H
  iapply (wp_load_row c 1 rfl) $$ Hr1; iintro %v1 Hr1
  iapply (wp_store_row m c 1 rfl rfl) $$ Hr1; iintro Hr1
  icombine H Hr1 as H
  ihave H := (st_row m K c 1 [7, 9, 10, 8, 11, 13, 12] (by decide) (by decide)) $$ H; icases H with ⟨H, Hr1⟩
  ihave H := (Entails.of_eq (st_next m K c (d := [7, 9, 10, 8, 11, 13, 12]) (by decide))) $$ H
  iapply WP_ret; try dsimp only
  -- part 12
  rw [WP_bind]; simp only [k0_part12_eq_skeleton]; unfold k0_part12_skel
  simp only [semSignalWord, semWaitWord, Prog.lift, Prog.bind_op, Prog.bind_ret, Prog.pure_eq_ret]
  iapply (st_send m K c _ 7 (by clear * - c; revert c; decide) _ _ rfl rfl rfl rfl) $$ H; iintro H
  iapply (st_send m K c _ 9 (by clear * - c; revert c; decide) _ _ rfl rfl rfl rfl) $$ H; iintro H
  iapply (st_send m K c _ 10 (by clear * - c; revert c; decide) _ _ rfl rfl rfl rfl) $$ H; iintro H
  iapply WP_ret; try dsimp only
  -- part 13
  rw [WP_bind]; simp only [k0_part13_eq_skeleton]; unfold k0_part13_skel
  simp only [semSignalWord, semWaitWord, Prog.lift, Prog.bind_op, Prog.bind_ret, Prog.pure_eq_ret]
  iapply (st_send m K c _ 8 (by clear * - c; revert c; decide) _ _ rfl rfl rfl rfl) $$ H; iintro H
  iapply (st_send m K c _ 11 (by clear * - c; revert c; decide) _ _ rfl rfl rfl rfl) $$ H; iintro H
  iapply WP_ret; try dsimp only
  -- part 14
  rw [WP_bind]; simp only [k0_part14_eq_skeleton]; unfold k0_part14_skel
  simp only [semSignalWord, semWaitWord, Prog.lift, Prog.bind_op, Prog.bind_ret, Prog.pure_eq_ret]
  iapply (st_send m K c _ 13 (by clear * - c; revert c; decide) _ _ rfl rfl rfl rfl) $$ H; iintro H
  iapply (st_send m K c _ 12 (by clear * - c; revert c; decide) _ _ rfl rfl rfl rfl) $$ H; iintro H
  iapply (st_wait_rcv m K c 7 (by decide) _ rfl rfl) $$ H; iintro H
  iapply (st_load m K c 7) $$ H; iintro H
  iapply WP_ret; try dsimp only
  -- part 15
  rw [WP_bind]; simp only [k0_part15_eq_skeleton]; unfold k0_part15_skel
  simp only [semSignalWord, semWaitWord, Prog.lift, Prog.bind_op, Prog.bind_ret, Prog.pure_eq_ret]
  iapply (st_wait_rcv m K c 9 (by decide) _ rfl rfl) $$ H; iintro H
  iapply (st_load m K c 9) $$ H; iintro H
  iapply (st_wait_rcv m K c 10 (by decide) _ rfl rfl) $$ H; iintro H
  iapply (st_load m K c 10) $$ H; iintro H
  iapply WP_ret; try dsimp only
  -- part 16
  rw [WP_bind]; simp only [k0_part16_eq_skeleton]; unfold k0_part16_skel
  simp only [semSignalWord, semWaitWord, Prog.lift, Prog.bind_op, Prog.bind_ret, Prog.pure_eq_ret]
  iapply (st_wait_rcv m K c 8 (by decide) _ rfl rfl) $$ H; iintro H
  iapply (st_load m K c 8) $$ H; iintro H
  iapply (st_wait_rcv m K c 11 (by decide) _ rfl rfl) $$ H; iintro H
  iapply (st_load m K c 11) $$ H; iintro H
  iapply (st_wait_rcv m K c 13 (by decide) _ rfl rfl) $$ H; iintro H
  iapply WP_ret; try dsimp only
  -- part 17
  rw [WP_bind]; simp only [k0_part17_eq_skeleton]; unfold k0_part17_skel
  simp only [semSignalWord, semWaitWord, Prog.lift, Prog.bind_op, Prog.bind_ret, Prog.pure_eq_ret]
  iapply (st_load m K c 13) $$ H; iintro H
  iapply (wp_load_w m c) $$ Hw; iintro Hw
  iapply (st_wait_rcv m K c 12 (by decide) _ rfl rfl) $$ H; iintro H
  iapply (st_load m K c 12) $$ H; iintro H
  iapply (wp_load_w m c) $$ Hw; iintro Hw
  iapply (wp_load_w m c) $$ Hw; iintro Hw
  iapply WP_ret; try dsimp only
  -- part 18
  rw [WP_bind]; simp only [k0_part18_eq_skeleton]; unfold k0_part18_skel
  simp only [semSignalWord, semWaitWord, Prog.lift, Prog.bind_op, Prog.bind_ret, Prog.pure_eq_ret]
  ihave H := (Entails.of_eq (st_bk m K c (bk' := [7, 9, 10, 8, 11, 13, 12]) (by decide))) $$ H
  iapply (st_wait_snd m K c 7 _ rfl rfl) $$ H; iintro H
  iapply (st_wait_snd m K c 9 _ rfl rfl) $$ H; iintro H
  iapply (st_wait_snd m K c 10 _ rfl rfl) $$ H; iintro H
  iapply (st_wait_snd m K c 8 _ rfl rfl) $$ H; iintro H
  iapply WP_ret; try dsimp only
  -- part 19
  rw [WP_bind]; simp only [k0_part19_eq_skeleton]; unfold k0_part19_skel
  simp only [semSignalWord, semWaitWord, Prog.lift, Prog.bind_op, Prog.bind_ret, Prog.pure_eq_ret]
  iapply (st_wait_snd m K c 11 _ rfl rfl) $$ H; iintro H
  iapply (st_wait_snd m K c 13 _ rfl rfl) $$ H; iintro H
  iapply (st_wait_snd m K c 12 _ rfl rfl) $$ H; iintro H
  iapply (wp_load_row c 2 rfl) $$ Hr2; iintro %v2 Hr2
  iapply (wp_store_row m c 2 rfl rfl) $$ Hr2; iintro Hr2
  icombine H Hr2 as H
  ihave H := (st_row m K c 2 [14, 16, 17, 15, 18, 20, 19] (by decide) (by decide)) $$ H; icases H with ⟨H, Hr2⟩
  ihave H := (Entails.of_eq (st_next m K c (d := [14, 16, 17, 15, 18, 20, 19]) (by decide))) $$ H
  iapply WP_ret; try dsimp only
  -- part 20
  rw [WP_bind]; simp only [k0_part20_eq_skeleton]; unfold k0_part20_skel
  simp only [semSignalWord, semWaitWord, Prog.lift, Prog.bind_op, Prog.bind_ret, Prog.pure_eq_ret]
  iapply (st_send m K c _ 14 (by clear * - c; revert c; decide) _ _ rfl rfl rfl rfl) $$ H; iintro H
  iapply (st_send m K c _ 16 (by clear * - c; revert c; decide) _ _ rfl rfl rfl rfl) $$ H; iintro H
  iapply WP_ret; try dsimp only
  -- part 21
  rw [WP_bind]; simp only [k0_part21_eq_skeleton]; unfold k0_part21_skel
  simp only [semSignalWord, semWaitWord, Prog.lift, Prog.bind_op, Prog.bind_ret, Prog.pure_eq_ret]
  iapply (st_send m K c _ 17 (by clear * - c; revert c; decide) _ _ rfl rfl rfl rfl) $$ H; iintro H
  iapply (st_send m K c _ 15 (by clear * - c; revert c; decide) _ _ rfl rfl rfl rfl) $$ H; iintro H
  iapply (st_send m K c _ 18 (by clear * - c; revert c; decide) _ _ rfl rfl rfl rfl) $$ H; iintro H
  iapply WP_ret; try dsimp only
  -- part 22
  rw [WP_bind]; simp only [k0_part22_eq_skeleton]; unfold k0_part22_skel
  simp only [semSignalWord, semWaitWord, Prog.lift, Prog.bind_op, Prog.bind_ret, Prog.pure_eq_ret]
  iapply (st_send m K c _ 20 (by clear * - c; revert c; decide) _ _ rfl rfl rfl rfl) $$ H; iintro H
  iapply (st_send m K c _ 19 (by clear * - c; revert c; decide) _ _ rfl rfl rfl rfl) $$ H; iintro H
  iapply (st_wait_rcv m K c 14 (by decide) _ rfl rfl) $$ H; iintro H
  iapply (st_load m K c 14) $$ H; iintro H
  iapply WP_ret; try dsimp only
  -- part 23
  rw [WP_bind]; simp only [k0_part23_eq_skeleton]; unfold k0_part23_skel
  simp only [semSignalWord, semWaitWord, Prog.lift, Prog.bind_op, Prog.bind_ret, Prog.pure_eq_ret]
  iapply (st_wait_rcv m K c 16 (by decide) _ rfl rfl) $$ H; iintro H
  iapply (st_load m K c 16) $$ H; iintro H
  iapply (st_wait_rcv m K c 17 (by decide) _ rfl rfl) $$ H; iintro H
  iapply (st_load m K c 17) $$ H; iintro H
  iapply WP_ret; try dsimp only
  -- part 24
  rw [WP_bind]; simp only [k0_part24_eq_skeleton]; unfold k0_part24_skel
  simp only [semSignalWord, semWaitWord, Prog.lift, Prog.bind_op, Prog.bind_ret, Prog.pure_eq_ret]
  iapply (st_wait_rcv m K c 15 (by decide) _ rfl rfl) $$ H; iintro H
  iapply (st_load m K c 15) $$ H; iintro H
  iapply (st_wait_rcv m K c 18 (by decide) _ rfl rfl) $$ H; iintro H
  iapply (st_load m K c 18) $$ H; iintro H
  iapply WP_ret; try dsimp only
  -- part 25
  rw [WP_bind]; simp only [k0_part25_eq_skeleton]; unfold k0_part25_skel
  simp only [semSignalWord, semWaitWord, Prog.lift, Prog.bind_op, Prog.bind_ret, Prog.pure_eq_ret]
  iapply (st_wait_rcv m K c 20 (by decide) _ rfl rfl) $$ H; iintro H
  iapply (st_load m K c 20) $$ H; iintro H
  iapply (st_wait_rcv m K c 19 (by decide) _ rfl rfl) $$ H; iintro H
  iapply (st_load m K c 19) $$ H; iintro H
  ihave H := (Entails.of_eq (st_bk m K c (bk' := [14, 16, 17, 15, 18, 20, 19]) (by decide))) $$ H
  iapply (st_wait_snd m K c 14 _ rfl rfl) $$ H; iintro H
  iapply WP_ret; try dsimp only
  -- part 26
  rw [WP_bind]; simp only [k0_part26_eq_skeleton]; unfold k0_part26_skel
  simp only [semSignalWord, semWaitWord, Prog.lift, Prog.bind_op, Prog.bind_ret, Prog.pure_eq_ret]
  iapply (st_wait_snd m K c 16 _ rfl rfl) $$ H; iintro H
  iapply (st_wait_snd m K c 17 _ rfl rfl) $$ H; iintro H
  iapply (st_wait_snd m K c 15 _ rfl rfl) $$ H; iintro H
  iapply (st_wait_snd m K c 18 _ rfl rfl) $$ H; iintro H
  iapply WP_ret; try dsimp only
  iapply (st_wait_snd m K c 20 _ rfl rfl) $$ H; iintro H
  iapply (st_wait_snd m K c 19 _ rfl rfl) $$ H; iintro H
  icases Hres with ⟨%f3, Hres⟩
  iapply (wp_load_res c) $$ Hres; iintro %v3 Hres
  iapply (wp_store_res m c rfl) $$ Hres; iintro Hres
  iapply WP_ret; try dsimp only
  iapply (wp_copy_out m K c _ rfl) $$ [Hres Hout HtO]
  · isplitr; · iexact HC
    isplitl [Hres]; · iexact Hres
    isplitl [Hout]; · iexact Hout
    iexact HtO
  iintro HcO
  unfold St
  icases H with ⟨-, HO, HR⟩
  iapply (wp_wait_out m K c _ rfl rfl) $$ [HO HcO HaO]
  · isplitr; · iexact HC
    isplitl [HO]; · iexact HO
    isplitl [HcO] <;> iassumption
  iintro ⟨HO, HzO, Hout, Hres⟩
  iapply WP_ret; try dsimp only
  iapply Hk
  isplitl [HO HR HzO Hr0 Hr1 Hr2 Hres Hout]
  · unfold Post St
    isplitl [HO HR]
    · isplitr; · iexact HC
      isplitl [HO]; · iexact HO
      iexact HR
    isplitl [HzO]; · iexact HzO
    isplitl [Hr0 Hr1 Hr2]
    · isplitl [Hr0]; · iexact Hr0
      isplitl [Hr1] <;> iassumption
    isplitl [Hres] <;> iassumption
  isplitl [Hx] <;> iassumption

end

end Cert.KernelIdeal.Run

end
-- ==== Proof.Ideal.Buffers.lean ====
/-
The send buffer held row by row, the receive buffer slot by slot, and what the launch hands a device sorted into what its run starts from.
-/
module

public import proofs.«01_k».proof.Proof.Ideal.Body
public import Idealize.ShloMosaic.Lib.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows and slots -/

/-- The places of a row of the send buffer. -/
def srcSet (l : Fin 3) : Finset S3x128x128.Idx := (srcM l).view.set
/-- The places of a slot of the receive buffer. -/
def dstSet (s : Fin 21) : Finset S21x128x128.Idx := (dstM s).view.set

theorem src_disjoint (l l' : Fin 3) (h : l ≠ l') : Disjoint (srcSet l) (srcSet l') :=
  Finset.disjoint_left.mpr fun i hi hi' => by
    obtain ⟨j, -, rfl⟩ := Finset.mem_map.mp hi
    obtain ⟨j', -, e⟩ := Finset.mem_map.mp hi'
    exact h (by rw [← src_emb_zero l j, ← src_emb_zero l' j']; exact (congrFun e 0).symm)
theorem dst_disjoint (s s' : Fin 21) (h : s ≠ s') : Disjoint (dstSet s) (dstSet s') :=
  Finset.disjoint_left.mpr fun i hi hi' => by
    obtain ⟨j, -, rfl⟩ := Finset.mem_map.mp hi
    obtain ⟨j', -, e⟩ := Finset.mem_map.mp hi'
    exact h (by rw [← dst_emb_zero s j, ← dst_emb_zero s' j']; exact (congrFun e 0).symm)

theorem src_cover : (Finset.univ : Finset (Fin 3)).biUnion srcSet = Finset.univ :=
  Finset.eq_univ_iff_forall.mpr fun (i : S3x128x128.Idx) => Finset.mem_biUnion.mpr ⟨(i 0 : Fin 3), Finset.mem_univ _, by
    refine (Finset.ext_iff.mp (acc_src (i 0)) i).mp (Finset.mem_map.mpr ⟨inRow i, Finset.mem_univ _, ?_⟩)
    funext a
    apply Fin.ext
    match a with
    | 0 => show (i 0).val + 1 * 0 = (i 0).val; omega
    | 1 => show 0 + 1 * (i 1).val = (i 1).val; omega
    | 2 => show 0 + 1 * (i 2).val = (i 2).val; omega⟩
theorem dst_cover : (Finset.univ : Finset (Fin 21)).biUnion dstSet = Finset.univ :=
  Finset.eq_univ_iff_forall.mpr fun (i : S21x128x128.Idx) => Finset.mem_biUnion.mpr ⟨(i 0 : Fin 21), Finset.mem_univ _, by
    refine (Finset.ext_iff.mp (acc_dst (i 0)) i).mp (Finset.mem_map.mpr ⟨inRow i, Finset.mem_univ _, ?_⟩)
    funext a
    apply Fin.ext
    match a with
    | 0 => show (i 0).val + 1 * 0 = (i 0).val; omega
    | 1 => show 0 + 1 * (i 1).val = (i 1).val; omega
    | 2 => show 0 + 1 * (i 2).val = (i 2).val; omega⟩

abbrev sndLoc (c : Dev nD) : Loc nD τ sig := (c : Thread nD τ).loc cc0_scratch0
abbrev rcvLoc (c : Dev nD) : Loc nD τ sig := (c : Thread nD τ).loc cc0_scratch1
abbrev resLoc (c : Dev nD) : Loc nD τ sig := (c : Thread nD τ).loc cc0_scratch5
abbrev outLoc (c : Dev nD) : Loc nD τ sig := (c : Thread nD τ).loc main_v1

/-- The send buffer whole is its three rows. -/
theorem snd_rows (c : Dev nD) (f : Buf (Elt F) (sndLoc c)) :
    (sndLoc c ↦{fullShare} f : sProp 𝕄) = iprop(srcPts c 0 fullShare f ∗ srcPts c 1 fullShare f ∗ srcPts c 2 fullShare f) :=
 by
  have h := Ring.pointsTo_blocks (nD := nD) (τ := τ) (sig := sig) (Ix := Unit) (Val := Elt F) (Name := ℕ) (U := UU) (Lvl := ℕ) (ℓ := sndLoc c) (q := fullShare) srcSet src_disjoint src_cover f
  rw [h, bigSep_univ_eq_bigSepL [0, 1, 2] (by decide) (by decide)]
  rfl

/-- The receive buffer whole is its twenty-one slots. -/
theorem rcv_slots (c : Dev nD) (f : Buf (Elt F) (rcvLoc c)) :
    (rcvLoc c ↦{fullShare} f : sProp 𝕄) = bigSep Finset.univ fun s : Fin 21 => dstPts c s f :=
 by
  have h := Ring.pointsTo_blocks (nD := nD) (τ := τ) (sig := sig) (Ix := Unit) (Val := Elt F) (Name := ℕ) (U := UU) (Lvl := ℕ) (ℓ := rcvLoc c) (q := fullShare) dstSet dst_disjoint dst_cover f
  rw [h]
  rfl

theorem resPts_eq (c : Dev nD) (f : Buf (Elt F) (resLoc c)) : (resLoc c ↦{fullShare} f : sProp 𝕄) = resPts c f := by
  have hu : resM.view.set = Finset.univ := View.set_whole _
  unfold resPts; rw [hu]
theorem outPts_eq (c : Dev nD) (f : Buf (Elt F) (outLoc c)) : (outLoc c ↦{fullShare} f : sProp 𝕄) = outPts c f := by
  have hu : outM.view.set = Finset.univ := View.set_whole _
  unfold outPts; rw [hu]

/-- The slots at any contents, hop by hop. -/
theorem slots_hops (c : Dev nD) : bigSep Finset.univ (fun s : Fin 21 => dstAny (F := F) c s) = sepL (dst3 (F := F) c) ranks := by
  rw [sepL_univ _ (ranks.map (slot 0) ++ ranks.map (slot 1) ++ ranks.map (slot 2)) (by decide) (by decide)]
  simp only [ranks, List.map_cons, List.map_nil, List.cons_append, List.nil_append, sepL_cons, sepL_nil, dst3]
  ac_rfl

theorem emp_left (P : sProp 𝕄) : iprop(emp ∗ P) = P := eqv Laws.emp_sep.1 Laws.emp_sep.2

theorem emp_right (P : sProp 𝕄) : iprop(P ∗ emp) = P := eqv Laws.sep_emp.1 Laws.sep_emp.2

theorem sepL_sep {ι : Type} (Φ Ψ : ι → sProp 𝕄) (l : List ι) : sepL (fun i => iprop(Φ i ∗ Ψ i)) l = iprop(sepL Φ l ∗ sepL Ψ l) := by
  induction l with
  | nil => rw [sepL_nil, sepL_nil, sepL_nil]; exact (emp_left _).symm
  | cons a l ih => rw [sepL_cons, sepL_cons, sepL_cons, ih]; ac_rfl

abbrev allSlots : List (Fin 21) := slots0 ++ slots1 ++ slots2
theorem bigSep_slots (Φ : Fin 21 → sProp 𝕄) : bigSep Finset.univ Φ = sepL Φ allSlots := sepL_univ Φ allSlots (by decide) (by decide)
theorem bigSep_ranks (Φ : Fin 7 → sProp 𝕄) : bigSep Finset.univ Φ = sepL Φ ranks := sepL_univ Φ ranks (by decide) (by decide)
theorem bigSep_hops (Φ : Fin 7 → sProp 𝕄) : bigSep Finset.univ Φ = sepL Φ hops := sepL_univ Φ hops (by decide) (by decide)

/-! ## Cells -/

theorem bigSep_unit (Φ : Unit → sProp 𝕄) : bigSep Finset.univ Φ = Φ () := bigSep_singleton

/-- An assertion of every cell, kind by kind. -/
theorem bigSep_cells (Φ : Kx → sProp 𝕄) : bigSep Finset.univ Φ
    = iprop(Φ kBar ∗ (bigSep Finset.univ fun k => Φ (kRdy k)) ∗ (bigSep Finset.univ fun s => Φ (kSnd s))
      ∗ (bigSep Finset.univ fun s => Φ (kRcv s)) ∗ Φ kOut) := by
  rw [bigSep_univ_sum, bigSep_univ_sum, bigSep_univ_sum, bigSep_univ_sum, bigSep_unit, bigSep_unit]
  rfl

/-- The positions on all of a device's own cells. -/
def poss (c : Dev nD) : sProp 𝕄 := bigSep Finset.univ fun x : Kx => atPos ER (cell c x) 0 ∅ 0
/-- The tokens of the duties a device pays. -/
def payToks (c : Dev nD) : sProp 𝕄 :=
  iprop(dutyTok ER (cell c kBar) 0 () ∗ (bigSep Finset.univ fun k => dutyTok ER (cell (peer k c) (kRdy k)) 0 ())
    ∗ (bigSep Finset.univ fun s => dutyTok ER (cell c (kSnd s)) 0 ())
    ∗ (bigSep Finset.univ fun s => dutyTok ER (cell (peer (hop s) c) (kRcv s)) 0 ()) ∗ dutyTok ER (cell c kOut) 0 ())
/-- The credits for what others owe a device's cells. -/
def creds (c : Dev nD) : sProp 𝕄 :=
  iprop(cred (tallyAt (cell c kBar) () 1) ∗ (bigSep Finset.univ fun k => cred (tallyAt (cell c (kRdy k)) () 1))
    ∗ (bigSep Finset.univ fun s => cred (tallyAt (cell c (kRcv s)) () N)))

/-- What the launch hands a device makes what its run starts from. -/
theorem pre_intro (c : Dev nD) (f₀ : Buf (Elt F) (sndLoc c)) (f₁ : Buf (Elt F) (rcvLoc c)) :
    iprop(poss c ∗ payToks c ∗ creds c ∗ (sndLoc c ↦{fullShare} f₀) ∗ (rcvLoc c ↦{fullShare} f₁) ∗ (∃ f, resPts c f) ∗ (∃ f, outPts c f))
      ⊢ Pre (F := F) c := by
  have hr : (rcvLoc c ↦{fullShare} f₁ : sProp 𝕄) ⊢ sepL (dst3 (F := F) c) ranks := by
    rw [rcv_slots, ← slots_hops]
    exact bigSep_mono fun s _ => show dstPts c s f₁ ⊢ (iprop(∃ f, dstPts c s f) : sProp 𝕄) from by iintro H; iexists f₁; iexact H
  have e1 : sepL (SigR (F := F) c) ranks = iprop((bigSep Finset.univ fun k => dutyTok ER (cell (peer k c) (kRdy k)) 0 ()) ∗ sepL (dst3 (F := F) c) ranks) := by
    unfold SigR; rw [sepL_sep, bigSep_ranks]
  have e2 : sepL (SndR (F := F) c) allSlots = iprop((bigSep Finset.univ fun s => dutyTok ER (cell c (kSnd s)) 0 ())
      ∗ (bigSep Finset.univ fun s => dutyTok ER (cell (peer (hop s) c) (kRcv s)) 0 ()) ∗ (bigSep Finset.univ fun s => atPos ER (cell c (kSnd s)) 0 ∅ 0)) := by
    unfold SndR; rw [sepL_sep, sepL_sep, bigSep_slots, bigSep_slots, bigSep_slots]
  have e3 : sepL (RdyR (F := F) c) hops = iprop((bigSep Finset.univ fun k => cred (tallyAt (cell c (kRdy k)) () 1))
      ∗ (bigSep Finset.univ fun k => atPos ER (cell c (kRdy k)) 0 ∅ 0)) := by
    unfold RdyR; rw [sepL_sep, bigSep_hops, bigSep_hops]
  have e4 : sepL (RcvR (F := F) c) allSlots = iprop((bigSep Finset.univ fun s => cred (tallyAt (cell c (kRcv s)) () N))
      ∗ (bigSep Finset.univ fun s => atPos ER (cell c (kRcv s)) 0 ∅ 0)) := by
    unfold RcvR; rw [sepL_sep, bigSep_slots, bigSep_slots]
  unfold Pre
  rw [e1, e2, e3, e4]
  unfold poss payToks creds
  rw [bigSep_cells (F := F) (fun x => atPos ER (cell c x) 0 ∅ 0), snd_rows]
  iintro ⟨⟨A1, A2, A3, A4, A5⟩, ⟨T1, T2, T3, T4, T5⟩, ⟨C1, C2, C3⟩, ⟨R0, R1, R2⟩, Hrcv, Hres, Hout⟩
  ihave D := hr $$ Hrcv
  isplitl [T1 C1 A1]; · iframe
  isplitl [T2 D T3 T4 A3 C2 A2 C3 A4]; · iframe
  isplitl [T5 A5]; · iframe
  isplitl [R0 R1 R2]
  · unfold rowAny
    isplitl [R0]; · iexists f₀; iexact R0
    isplitl [R1]; · iexists f₀; iexact R1
    iexists f₀; iexact R2
  isplitl [Hres] <;> iassumption

/-- All cells at zero, the result in its array, and the scratch buffers whole at some contents. -/
def Done (c : Dev nD) : sProp 𝕄 :=
  iprop((bigSep Finset.univ fun x : Kx => semVal (cell c x) 0) ∗ outPts c (resv m c)
    ∗ (∃ f : Buf (Elt F) (sndLoc c), sndLoc c ↦{fullShare} f) ∗ (∃ f : Buf (Elt F) (rcvLoc c), rcvLoc c ↦{fullShare} f)
    ∗ (∃ f : Buf (Elt F) (resLoc c), resLoc c ↦{fullShare} f))

/-- What a device's run gives back makes that, and nothing is owed. -/
theorem post_done (K : Dev nD × Kx → ℕ) (c : Dev nD) : Post m K c ⊢ iprop(owesE c 0 ∗ Done m c) := by
  have h0 : owed c [] [] = 0 := add_zero 0
  have hz : (bigSep Finset.univ fun x : Kx => (semVal (cell c x) 0 : sProp 𝕄)) = sepL (ZeroR (F := F) c) (kOut :: zs) :=
    sepL_univ (fun x : Kx => (semVal (cell c x) 0 : sProp 𝕄)) (kOut :: zs) (by decide) (by decide)
  have hg : (rcvLoc c ↦{fullShare} rbuf m c : sProp 𝕄) = sepL (GotR m c) gs := by
    rw [rcv_slots]; exact sepL_univ _ gs (by decide) (by decide)
  have hs : (sndLoc c ↦{fullShare} sbuf m c : sProp 𝕄)
      = iprop(sepL (ShrR m c) gs ∗ rowRest m c 0 ∗ rowRest m c 1 ∗ rowRest m c 2) := by
    rw [snd_rows, row_shares m c 0 slots0 (by decide) (by decide), row_shares m c 1 slots1 (by decide) (by decide),
      row_shares m c 2 slots2 (by decide) (by decide)]
    have e : sepL (ShrR m c) gs = iprop(sepL (ShrR m c) slots0 ∗ sepL (ShrR m c) slots1 ∗ sepL (ShrR m c) slots2) := by
      simp only [gs, slots0, slots1, slots2, List.reverse_cons, List.reverse_nil, List.cons_append, List.nil_append, sepL_cons]
      simp only [sepL_nil, emp_right]
      ac_rfl
    rw [e]
    ac_rfl
  unfold Post Done St
  rw [h0, hz, sepL_cons]
  unfold ZeroR
  iintro ⟨⟨-, HO, -, -, -, -, -, -, -, -, -, Hg, Hf, Hz⟩, HzO, Hr, Hres, Hout⟩
  isplitl [HO]; · iexact HO
  isplitl [Hz HzO]; · iframe
  isplitl [Hout]; · iexact Hout
  isplitl [Hf Hr]
  · iexists (sbuf m c); rw [hs]; iframe
  isplitl [Hg]
  · iexists (rbuf m c); rw [hg]; iexact Hg
  iexists (resv m c); rw [resPts_eq]; iexact Hres

end Cert.KernelIdeal.Run

end
-- ==== Proof.Ideal.Deal.lean ====
/-
The ghost resources of the exchange dealt to the devices: every cell's state, the tokens of the duties each pays, the credits for what the others owe it.
-/
module

public import proofs.«01_k».proof.Proof.Ideal.Buffers

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

theorem cell_injective : Function.Injective (fun p : Dev nD × Kx => cell p.1 p.2) := by
  rintro ⟨c, x⟩ ⟨c', x'⟩ h
  have h1 : c = c' := congrArg (fun g : GSem nD τ sig => g.1.1) h
  have h2 : kind (csem x) = kind (csem x') := congrArg (fun g : GSem nD τ sig => kind g.2) h
  rw [kind_csem, kind_csem] at h2
  rw [h1, Option.some.inj h2]

/-- Every cell of the exchange. -/
def theCells : Finset (GSem nD τ sig) := Finset.univ.map ⟨fun p : Dev nD × Kx => cell p.1 p.2, cell_injective⟩
/-- Every cell's one duty. -/
def theToks : Finset (GSem nD τ sig × ℕ × Unit) :=
  Finset.univ.map ⟨fun p : Dev nD × Kx => (cell p.1 p.2, 0, ()), fun _ _ h => cell_injective (congrArg Prod.fst h)⟩

def u₀ : UU := (initOf (Pipeline.cells cfgs cellOf_inj) (Pipeline.launchToks cfgs cellOf_inj), initOf theCells theToks)

/-- The tokens of a device's own cells. -/
def ownToks (c : Dev nD) : sProp 𝕄 := bigSep Finset.univ fun x : Kx => dutyTok ER (cell c x) 0 ()

/-- A device's share of the ghost state, as first made. -/
def G (c : Dev nD) : sProp 𝕄 :=
  iprop((bigSep Finset.univ fun x : Kx => roundState ER (Rd m) (cell c x) 0) ∗ poss (F := F) c
    ∗ (bigSep Finset.univ fun x : Kx => reached ER (cell c x) 0) ∗ ownToks (F := F) c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun x : Kx => Φ (cell c x) := by
    unfold theCells; rw [bigSep_map, bigSep_univ_prod]; rfl
  have hT : bigSep theToks (fun t => (dutyTok ER t.1 t.2.1 t.2.2 : sProp 𝕄)) = bigSep Finset.univ fun c : Dev nD => ownToks c := by
    unfold theToks; rw [bigSep_map, bigSep_univ_prod]; rfl
  iintro H
  imod (Rounds.fund ER (Rd m) theCells theToks) $$ H with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  unfold poss
  iframe

/-! ## Invariants -/

/-- A device's own semaphores and the barrier are its cells. -/
theorem sems_cells (c : Dev nD) : iprop(Pipeline.ownSems0 osem c ∗ unscopedSems0 c) = (bigSep Finset.univ fun x : Kx => semVal (cell c x) 0 : sProp 𝕄) := by
  have hu : (unscopedSems0 c : sProp 𝕄) = semVal (cell c kBar) 0 := by
    unfold unscopedSems0; rw [bigSep_eq_bigSepL_of_eq [SemLoc.reg barS] (by decide) (by decide)]; rfl
  rw [hu, bigSep_univ_sum, bigSep_unit]
  unfold Pipeline.ownSems0
  exact Std.Commutative.comm (op := (BI.sep : sProp 𝕄 → sProp 𝕄 → sProp 𝕄)) _ _

theorem core_alloc (c : Dev nD) :
    iprop(Pipeline.ownSems0 osem c ∗ unscopedSems0 c ∗ G m c)
      ⊢ |={Set.univ}=> iprop((bigSep Finset.univ fun x : Kx => iprop(∃ κ : ℕ, cellInv ER (Rd m) κ (cell c x)))
          ∗ poss (F := F) c ∗ (bigSep Finset.univ fun x : Kx => reached ER (cell c x) 0) ∗ ownToks (F := F) c) := by
  unfold G
  iintro ⟨Hos, Hus, Hst, Hat, Hr, Htok⟩
  ihave Hv := (Entails.of_eq (sems_cells (F := F) c)) $$ [Hos Hus]
  · isplitl [Hos] <;> iassumption
  imod (show iprop((bigSep Finset.univ fun x : Kx => semVal (cell c x) 0) ∗ bigSep Finset.univ fun x : Kx => roundState ER (Rd m) (cell c x) 0)
      ⊢ (|={Set.univ}=> bigSep Finset.univ fun x : Kx => iprop(∃ κ : ℕ, cellInv ER (Rd m) κ (cell c x)) : sProp 𝕄) from by
        rw [← bigSep_sep']
        exact (bigSep_mono fun x _ => (Rounds.body_intro ER (Rd m) (cell c x)).trans inv_alloc).trans (bigSep_fupd _ _)) $$ [Hv Hst] with Hinv
  · isplitl [Hv] <;> iassumption
  imodintro
  iframe

/-- Going to a peer, as a permutation of the devices. -/
def peerE (k : Fin 7) : Dev nD ≃ Dev nD := ⟨peer k, peer k, peer_peer k, peer_peer k⟩

/-- A family over the devices and some hops may be read at the far end of each hop. -/
theorem around {ι : Type} [Fintype ι] [DecidableEq ι] (h : ι → Fin 7) (Φ : Dev nD → ι → sProp 𝕄) :
    (bigSep Finset.univ fun c => bigSep Finset.univ fun i => Φ c i) = bigSep Finset.univ fun c => bigSep Finset.univ fun i => Φ (peer (h i) c) i := by
  rw [bigSep_univ_comm, bigSep_univ_comm (fun (c : Dev nD) i => Φ (peer (h i) c) i)]
  exact bigSep_congr fun i _ => bigSep_univ_equiv (peerE (h i)) fun c => Φ c i

/-- Every token goes to the device that pays its duty. -/
theorem toks_around : (bigSep Finset.univ fun c : Dev nD => ownToks (F := F) c) = bigSep Finset.univ fun c : Dev nD => payToks (F := F) c := by
  have e (c : Dev nD) := bigSep_cells (F := F) fun x => dutyTok ER (cell c x) 0 ()
  unfold ownToks payToks
  rw [bigSep_congr fun (c : Dev nD) _ => e c]
  simp only [bigSep_sep']
  rw [around (fun k => k) fun (c : Dev nD) (k : Fin 7) => (dutyTok ER (cell c (kRdy k)) 0 () : sProp 𝕄),
    around hop fun (c : Dev nD) (s : Fin 21) => (dutyTok ER (cell c (kRcv s)) 0 () : sProp 𝕄)]

/-- Every cell's invariant, and that every cell is at round 0. -/
def records (K : Dev nD × Kx → ℕ) : sProp 𝕄 :=
  iprop((bigSep Finset.univ fun p : Dev nD × Kx => cellInv ER (Rd m) (K p) (cell p.1 p.2))
    ∗ bigSep Finset.univ fun p : Dev nD × Kx => reached ER (cell p.1 p.2) 0)

instance records_persistent (K : Dev nD × Kx → ℕ) : BI.Persistent (records m K) := by unfold records; infer_instance

/-- A device's share of the ghost state, as handed over. -/
def G' (c : Dev nD) : sProp 𝕄 := iprop(∃ K, records m K ∗ poss (F := F) c ∗ payToks (F := F) c)

theorem regroup :
    (bigSep Finset.univ fun c : Dev nD => iprop((bigSep Finset.univ fun x : Kx => iprop(∃ κ : ℕ, cellInv ER (Rd m) κ (cell c x)))
          ∗ poss (F := F) c ∗ (bigSep Finset.univ fun x : Kx => reached ER (cell c x) 0) ∗ ownToks (F := F) c))
      ⊢ bigSep Finset.univ (G' m) := by
  simp only [bigSep_sep']
  rw [toks_around, ← bigSep_univ_prod (fun p : Dev nD × Kx => iprop(∃ κ : ℕ, cellInv ER (Rd m) κ (cell p.1 p.2))),
    ← bigSep_univ_prod (fun p : Dev nD × Kx => (reached ER (cell p.1 p.2) 0 : sProp 𝕄))]
  iintro ⟨HI, Hat, #HR, Htok⟩
  ihave HK := (BI.bigSep_exists_pi Finset.univ (fun (p : Dev nD × Kx) (κ : ℕ) => (cellInv ER (Rd m) κ (cell p.1 p.2) : sProp 𝕄))) $$ HI
  icases HK with ⟨%K, #HI⟩
  have hgive : iprop(records m K ∗ (bigSep Finset.univ fun c : Dev nD => iprop(poss (F := F) c ∗ payToks (F := F) c))) ⊢ bigSep Finset.univ (G' m) :=
    (sep_mono_left (BI.bigSep_of_persistent Finset.univ (records m K))).trans (by
      rw [← bigSep_sep']
      refine bigSep_mono fun c _ => ?_
      show iprop(records m K ∗ poss (F := F) c ∗ payToks (F := F) c) ⊢ G' m c
      unfold G'; iintro H; iexists K; iexact H)
  iapply hgive
  isplitr
  · unfold records; isplitl; · iexact HI
    iexact HR
  rw [bigSep_sep']
  isplitl [Hat] <;> iassumption

theorem glob : (bigSep Finset.univ fun c => iprop(Pipeline.ownSems0 osem c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## Credits -/

theorem cell_eq_iff {c c' : Dev nD} {x x' : Kx} : cell c x = cell c' x' ↔ c = c' ∧ x = x' :=
  ⟨fun h => by have := cell_injective (a₁ := (c, x)) (a₂ := (c', x')) h; exact ⟨congrArg Prod.fst this, congrArg Prod.snd this⟩, fun ⟨h, h'⟩ => by rw [h, h']⟩

/-- Each device owing its peer's cell `y` an amount, a device's cell `x` is owed that amount if it is that cell. -/
theorem sum_tally (k : Fin 7) (y x : Kx) (n : ℕ) (c : Dev nD) :
    ∑ d : Dev nD, (tallyAt (cell (peer k d) y) () n : CellTallies nD τ sig Unit) (cell c x) () = n * (if x = y then 1 else 0) := by
  rw [Finset.sum_eq_single (peer k c)]
  · rw [tallyAt_apply, peer_peer]
    by_cases h : x = y
    · rw [if_pos h, if_pos ⟨by rw [h], rfl⟩, Nat.mul_one]
    · rw [if_neg h, if_neg fun ⟨e, _⟩ => h (cell_eq_iff.mp e).2, Nat.mul_zero]
  · intro d _ hd
    rw [tallyAt_apply, if_neg fun ⟨e, _⟩ => hd (by rw [(cell_eq_iff.mp e).1, peer_peer])]
  · exact fun h => absurd (Finset.mem_univ _) h

theorem sum_owedR (x : Kx) (c : Dev nD) : ∀ ks : List (Fin 7),
    ∑ d : Dev nD, owedR d ks (cell c x) () = (ks.map fun k => if x = kRdy k then 1 else 0).sum
  | [] => Finset.sum_const_zero
  | k :: ks => by
    simp only [owedR, Pi.add_apply, Finsupp.add_apply]
    rw [Finset.sum_add_distrib, sum_owedR x c ks, sum_tally, Nat.one_mul, List.map_cons, List.sum_cons, Nat.add_comm]
theorem sum_owedV (x : Kx) (c : Dev nD) : ∀ ss : List (Fin 21),
    ∑ d : Dev nD, owedV d ss (cell c x) () = N * (ss.map fun s => if x = kRcv s then 1 else 0).sum
  | [] => Finset.sum_const_zero
  | s :: ss => by
    simp only [owedV, Pi.add_apply, Finsupp.add_apply]
    rw [Finset.sum_add_distrib, sum_owedV x c ss, sum_tally, List.map_cons, List.sum_cons, Nat.mul_add, Nat.add_comm]

/-- What all devices together owe a cell. -/
theorem sum_owed (x : Kx) (c : Dev nD) : ∑ d : Dev nD, O₀ d (cell c x) ()
    = (ranks.map fun k => if x = kRdy k then 1 else 0).sum + N * (allSlots.map fun s => if x = kRcv s then 1 else 0).sum + if x = kBar then 1 else 0 := by
  simp only [O₀, owed, Pi.add_apply, Finsupp.add_apply]
  rw [Finset.sum_add_distrib, Finset.sum_add_distrib, sum_owedR, sum_owedV]
  congr 1
  rw [Finset.sum_eq_single c]
  · rw [tallyAt_apply]
    by_cases h : x = kBar
    · rw [if_pos h, if_pos ⟨by rw [h], rfl⟩]
    · rw [if_neg h, if_neg fun ⟨e, _⟩ => h (cell_eq_iff.mp e).2]
  · intro d _ hd
    rw [tallyAt_apply, if_neg fun ⟨e, _⟩ => hd (cell_eq_iff.mp e).1.symm]
  · exact fun h => absurd (Finset.mem_univ _) h

theorem sum_bar (c : Dev nD) : ∑ d : Dev nD, O₀ d (cell c kBar) () = 1 := by
  rw [sum_owed, show (ranks.map fun k => if kBar = kRdy k then 1 else 0).sum = 0 from by decide,
    show (allSlots.map fun s => if kBar = kRcv s then 1 else 0).sum = 0 from by decide, Nat.mul_zero]; rfl
theorem sum_rdy (c : Dev nD) (k : Fin 7) : ∑ d : Dev nD, O₀ d (cell c (kRdy k)) () = 1 := by
  have h : (ranks.map fun k' => if kRdy k = kRdy k' then 1 else 0).sum = 1 := by clear * - k; revert k; decide
  have h' : (allSlots.map fun s => if kRdy k = kRcv s then 1 else 0).sum = 0 := by clear * - k; revert k; decide
  rw [sum_owed, h, h', Nat.mul_zero]; rfl
theorem sum_rcv (c : Dev nD) (s : Fin 21) : ∑ d : Dev nD, O₀ d (cell c (kRcv s)) () = N := by
  have h : (ranks.map fun k => if kRcv s = kRdy k then 1 else 0).sum = 0 := by clear * - s; revert s; decide
  have h' : (allSlots.map fun s' => if kRcv s = kRcv s' then 1 else 0).sum = 1 := by clear * - s; revert s; decide
  rw [sum_owed, h, h', Nat.mul_one, Nat.zero_add]; rfl

theorem launch_at (x : Kx) (c : Dev nD) (n : ℕ) (h : ∑ d : Dev nD, O₀ d (cell c x) () = n) :
    tallyOn (cell c x) (launchCredit (Pipeline.owing O₀) 0 (cell c x)) = (tallyAt (cell c x) () n : CellTallies nD τ sig Unit) := by
  unfold tallyAt; refine congrArg _ (Finsupp.ext fun u => ?_); cases u
  rw [Pipeline.launchCredit_owing, Finsupp.single_eq_same, h]

theorem csem_injective : Function.Injective csem := fun x y h => Option.some.inj (by rw [← kind_csem, ← kind_csem, h])

/-- The launch's credits are those of the barrier, of the ready cells and of the receive cells. -/
theorem creds_intro (c : Dev nD) : (Pipeline.launchCred O₀ c : sProp 𝕄) ⊢ creds (F := F) c := by
  have hs : (Pipeline.launchCred O₀ c : sProp 𝕄)
      ⊢ bigSep Finset.univ fun x : Kx => cred (tallyOn (cell c x) (launchCredit (Pipeline.owing O₀) 0 (cell c x))) := by
    unfold Pipeline.launchCred
    refine BIBase.Entails.trans (bigSep_subset (Finset.subset_univ (Finset.univ.map ⟨csem, csem_injective⟩))) ?_
    rw [bigSep_map]; exact BI.Entails.refl _
  refine hs.trans ?_
  rw [bigSep_cells, launch_at kBar c 1 (sum_bar c), bigSep_congr fun (k : Fin 7) _ => congrArg cred (launch_at (kRdy k) c 1 (sum_rdy c k)),
    bigSep_congr (s := Finset.univ) (Φ := fun s : Fin 21 => cred (tallyOn (cell c (kRcv s)) (launchCredit (Pipeline.owing O₀) 0 (cell c (kRcv s)))))
      fun (s : Fin 21) _ => congrArg cred (launch_at (kRcv s) c N (sum_rcv c s))]
  unfold creds
  iintro ⟨H1, H2, -, H3, -⟩
  iframe

end Cert.KernelIdeal.Run

end
-- ==== Proof.Ideal.Launch.lean ====
/-
The launch: every weakly fair run of the kernel from zero counters ends with the computed block in every device's result array, the inputs untouched and every counter at zero.
-/
module

public import proofs.«01_k».proof.Proof.Ideal.Deal
public import Idealize.ShloMosaic.Lib.Quiescent
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory a run starts from: zero counters. -/
def s₀ : MemSt nD τ sig (Elt F) := ⟨m, fun _ => 0, ρ⟩

/-- The ghost state and the result array, before the body. -/
def start (c : Dev nD) : sProp 𝕄 :=
  iprop((∃ K, ctx m K ∗ poss (F := F) c ∗ payToks (F := F) c ∗ creds (F := F) c) ∗ ∃ f, outPts c f)
/-- All that is held before the body beside the windows. -/
def Φ₀ (c : Dev nD) : sProp 𝕄 :=
  iprop(start m c ∗ (∃ f : Buf (Elt F) (sndLoc c), sndLoc c ↦{fullShare} f) ∗ (∃ f : Buf (Elt F) (rcvLoc c), rcvLoc c ↦{fullShare} f)
    ∗ (∃ f : Buf (Elt F) (resLoc c), resLoc c ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
  Φ t := match t with
    | ⟨0, _⟩ => Φ₀ m c
    | ⟨_ + 1, _⟩ => Done m c
  q _ := fullShare
  owed t := match t with
    | ⟨0, _⟩ => O₀ c
    | ⟨_ + 1, _⟩ => 0

/-! ## The body -/

theorem bigSep_W (Φ : Fin cfg0.W → sProp 𝕄) : bigSep Finset.univ Φ = iprop(Φ (0 : Fin 2) ∗ Φ (1 : Fin 2)) := bigSep_W0 Φ

/-- A staging buffer held whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def bodyPost (c : Dev nD) : sProp 𝕄 :=
  iprop(Done m c ∗ (dats m ρ 0 c).owesAt () t0_0.succ ∗ stg c cc0_stg0_0 (xs m c) ∗ stg c cc0_stg1_0 (ws m c))

theorem owes_start (c : Dev nD) : (dats m ρ 0 c).owesAt () t0_0.castSucc ⊢ owesE c (O₀ c) := by
  unfold Dat.owesAt Pipeline.owesWithin
  iintro ⟨%W, -, HO⟩
  unfold owesE; iexists W; iexact HO
theorem owes_end (c : Dev nD) : owesE c 0 ⊢ (dats m ρ 0 c).owesAt () t0_0.succ := by
  unfold Dat.owesAt Pipeline.owesWithin owesE
  iintro ⟨%W, HO⟩
  iexists W
  isplitr; · ipureintro; exact fun _ _ => Or.inl trivial
  iexact HO

theorem stg_x (c : Dev nD) (d) : stg c cc0_stg0_0 ((dats m ρ 0 c).before (0 : Fin 2) t0_0 d) ⊢ xPts m c := by
  iintro ⟨%f, %hf, H⟩
  have h : f = xs m c := by rw [hf]; unfold Dat.before; rw [if_pos (fetch0_0 t0_0)]; rfl
  subst h
  unfold xPts; iexact H
theorem stg_w (c : Dev nD) (d) : stg c cc0_stg1_0 ((dats m ρ 0 c).before (1 : Fin 2) t0_0 d) ⊢ wPts m c := by
  iintro ⟨%f, %hf, H⟩
  have h : f = ws m c := by rw [hf]; unfold Dat.before; rw [if_pos (fetch0_1 t0_0)]; rfl
  subst h
  unfold wPts; iexact H

/-- From what the launch hands over, the body runs to its end. -/
theorem sound_body (c : Dev nD) : bodyPre m ρ c ⊢ WP c
    (cc0_body (F := F) (Memref.whole cc0_stg0_0) (Memref.isWhole_whole _) (Memref.whole cc0_stg1_0) (Memref.isWhole_whole _)
      (Memref.whole main_v1) (Memref.isWhole_whole _) (Memref.whole cc0_scratch0) (Memref.isWhole_whole _)
      (Memref.whole cc0_scratch1) (Memref.isWhole_whole _) cc0_scratch2 cc0_scratch3 cc0_scratch4
      (Memref.whole cc0_scratch5) (Memref.isWhole_whole _) cc0_scratch6) (fun _ => bodyPost m ρ c) := by
  unfold bodyPre Φ₀ start
  iintro ⟨⟨⟨⟨%K, #HC, Hp, Ht, Hc⟩, Hout⟩, ⟨%f₀, Hs⟩, ⟨%f₁, Hr⟩, ⟨%f₂, Hres⟩⟩, Ho, ⟨%d, Hx⟩, ⟨%d', Hw⟩⟩
  ihave HO := (owes_start m ρ c) $$ Ho
  ihave Hx := (stg_x m ρ c d) $$ Hx
  ihave Hw := (stg_w m ρ c d') $$ Hw
  ihave HP := (pre_intro c f₀ f₁) $$ [Hp Ht Hc Hs Hr Hres Hout]
  · iframe
    iexists f₂; rw [← resPts_eq]; iexact Hres
  iapply (run_body m K c fun _ => bodyPost m ρ c)
  isplitr; · iexact HC
  isplitl [HO]; · iexact HO
  isplitl [HP]; · iexact HP
  isplitl [Hx]; · iexact Hx
  isplitl [Hw]; · iexact Hw
  iintro ⟨HQ, Hx, Hw⟩
  ihave HD := (post_done m K c) $$ HQ
  icases HD with ⟨HO, HD⟩
  ihave Ho := (owes_end m ρ c) $$ HO
  unfold bodyPost
  isplitl [HD]; · iexact HD
  isplitl [Ho]; · iexact Ho
  isplitl [Hx]
  · iexists (xs m c); isplitr; · (ipureintro; rfl)
    unfold xPts; iexact Hx
  iexists (ws m c); isplitr; · (ipureintro; rfl)
  unfold wPts; iexact Hw

set_option maxRecDepth 20000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hv, #Hlev, Hcr, -, HG⟩
  ihave Hv := (Entails.of_eq (unscopedRest0_eq (Ix := Unit) (Val := Elt F) (Name := ℕ) (U := UU) (Lvl := ℕ) c (fun b => m ((c : Thread nD τ).loc b)))) $$ Hv
  ihave Hc := (creds_intro (F := F) c) $$ Hcr
  unfold G'
  icases HG with ⟨%K, HR, Hp, Ht⟩
  imodintro
  isplitr []
  · unfold start
    isplitl [HR Hp Ht Hc]
    · iexists K
      isplitl [HR]
      · unfold records ctx
        icases HR with ⟨H1, H2⟩
        isplitl [H1]; · iexact H1
        isplitl [H2]; · iexact H2
        iexact Hlev
      iframe
    iexists (m (outLoc c)); rw [← outPts_eq]; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  iintro ⟨Hs, -, Hr⟩
  ihave Hr := (Entails.of_eq (scopedRest0_eq (Ix := Unit) (Val := Elt F) (Name := ℕ) (U := UU) (Lvl := ℕ) c)) $$ Hr
  unfold Φ₀
  isplitl [Hs] <;> iassumption

theorem phi1_exit (c : Dev nD) :
    (dats m ρ 0 c).Φ (Fin.last cfg0.N) ⊢ iprop((unscopedSems0 c ∗ outPts c (resv m c)) ∗ Pipeline.ownSems0 osem c ∗ Pipeline.scopedRest cfg0.spec c) := by
  rw [show (dats m ρ 0 c).Φ (Fin.last cfg0.N) = Done m c from rfl]
  unfold Done
  iintro ⟨Hz, Hout, Hr⟩
  ihave Hz := (Entails.of_eq (sems_cells (F := F) c).symm) $$ Hz
  icases Hz with ⟨Ho, Hu⟩
  isplitl [Hu Hout]; · isplitl [Hu] <;> iassumption
  isplitl [Ho]; · iexact Ho
  iapply (Entails.of_eq (scopedRest0_eq (Ix := Unit) (Val := Elt F) (Name := ℕ) (U := UU) (Lvl := ℕ) c).symm)
  iexact Hr

/-- A staging cell may be waited on before the body, whatever is owed then, and after it. -/
theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by fin_cases w <;> fin_cases s <;> decide) _ (by
      rcases t with ⟨_ | _, ht⟩
      · intro g u h
        rw [show (dats m ρ 0 c).owed ⟨0, ht⟩ = O₀ c from rfl, O₀, Pi.add_apply, Finsupp.add_apply] at h
        rcases Nat.eq_zero_or_pos (owed c ranks allSlots g u) with h0 | h0
        · rw [h0, Nat.zero_add, tallyAt_apply] at h
          by_cases e : g = cell c kBar ∧ u = ()
          · exact ⟨c, kBar, e.1, Nat.one_pos⟩
          · rw [if_neg e] at h; exact absurd h (Nat.lt_irrefl 0)
        · exact owed_above (fun _ => Nat.two_pos) (fun s _ => Nat.lt_of_lt_of_le (by decide : 0 < 3) (Nat.le_add_right 3 _)) g u h0
      · intro g u h
        exact absurd h (Nat.lt_irrefl 0))

/-! ## The run -/

/-- A device's arrays and result after a run. -/
def QC : PUnit × MemSt nD τ sig (Elt F) → Prop := fun r => ∀ c : Dev nD,
  r.2.mem (outLoc c) = resv m c ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- Every weakly fair run from zero counters terminates, with every device's result array at the computed block, its arguments as they were and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ outPts c (resv m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (outLoc c) = resv m c)
    (hY := fun c s' => by
      iintro ⟨⟨Hu, Hout⟩, -, HSI⟩
      ihave Hout := (Entails.of_eq (outPts_eq c (resv m c)).symm) $$ Hout
      icombine HSI Hout gives %h
      imod (Pipeline.unscopedSems0_read (X := unscopedSems0 c) (c := c) fupd_intro s') $$ [Hu HSI] with ⟨%h', HSI⟩
      · isplitl [Hu] <;> iassumption
      imodintro
      isplitr
      · ipureintro; exact ⟨h', funext fun i => h i (Finset.mem_univ i)⟩
      iexact HSI)
    (hQ := fun s h hs => ⟨fun c => ⟨(h c).2.2.2, ((h c).1 0).trans ((dats m ρ 0 c).arrAt_in (0 : Fin 2) rfl _),
      ((h c).1 1).trans ((dats m ρ 0 c).arrAt_in (1 : Fin 2) rfl _)⟩, sem_eq_zero hs fun c => (h c).2.2.1⟩)

end Cert.KernelIdeal.Run

end
-- ==== Proof.Value.Layer.lean ====
/-
One layer over the extended reals, as plain functions of indices: the product with the input weight, the clamp at
zero, the product with the transposed output weight; how it splits over eight column blocks; and when a product of a
sum is the sum of the products.
-/
module

public import Mathlib.Data.EReal.Operations
public import Mathlib.Algebra.BigOperators.Fin
public import Mathlib.Logic.Equiv.Fin.Basic

@[expose] public section

noncomputable section

namespace Cert.Value

open scoped BigOperators

/-- A block of activations, and a weight of `n` columns. -/
abbrev Act := Fin 128 → Fin 128 → EReal
abbrev Wt (n : ℕ) := Fin 128 → Fin n → EReal

variable {n : ℕ}

/-- The product of the activations with an input weight. -/
def mm (X : Act) (w : Wt n) (i : Fin 128) (h : Fin n) : EReal := ∑ k : Fin 128, X i k * w k h
/-- The clamped product, multiplied by the transpose of an output weight. -/
def out (H : Wt n) (wo : Wt n) : Act := fun i j => ∑ h : Fin n, max (H i h) 0 * wo j h
/-- One layer on `n` hidden columns. -/
def part (X : Act) (wi wo : Wt n) : Act := out (mm X wi) wo

/-! ## Finite values -/

/-- Neither infinity. -/
def Fine (x : EReal) : Prop := ∃ r : ℝ, x = (r : EReal)

theorem Fine.zero : Fine 0 := ⟨0, rfl⟩
theorem Fine.add {x y : EReal} : Fine x → Fine y → Fine (x + y)
  | ⟨a, ha⟩, ⟨b, hb⟩ => ⟨a + b, by rw [ha, hb, EReal.coe_add]⟩
theorem Fine.mul {x y : EReal} : Fine x → Fine y → Fine (x * y)
  | ⟨a, ha⟩, ⟨b, hb⟩ => ⟨a * b, by rw [ha, hb, EReal.coe_mul]⟩
theorem Fine.max {x y : EReal} (hx : Fine x) (hy : Fine y) : Fine (max x y) := by
  rcases max_choice x y with h | h <;> rw [h] <;> assumption
theorem Fine.sum {ι : Type} (s : Finset ι) (f : ι → EReal) (h : ∀ i, Fine (f i)) : Fine (∑ i ∈ s, f i) := by
  induction s using Finset.cons_induction with
  | empty => exact Fine.zero
  | cons a s ha ih => rw [Finset.sum_cons]; exact (h a).add ih
/-- An extended real below plus infinity in absolute value is finite. -/
theorem Fine.of_abs {x : EReal} (h : Max.max x (-x) < ⊤) : Fine x := by
  induction x with
  | bot => simp at h
  | top => simp at h
  | coe r => exact ⟨r, rfl⟩

theorem Fine.distrib {a b w : EReal} : Fine a → Fine b → Fine w → (a + b) * w = a * w + b * w
  | ⟨a, ha⟩, ⟨b, hb⟩, ⟨w, hw⟩ => by rw [ha, hb, hw]; norm_cast; exact add_mul a b w

/-- A layer of finite values has finite values. -/
theorem part_fine {X : Act} {wi wo : Wt n} (hX : ∀ i k, Fine (X i k)) (hi : ∀ k h, Fine (wi k h)) (ho : ∀ k h, Fine (wo k h))
    (i j : Fin 128) : Fine (part X wi wo i j) := by
  unfold part out mm
  exact Fine.sum _ _ fun h => Fine.mul (Fine.max (Fine.sum _ _ fun k => (hX i k).mul (hi k h)) Fine.zero) (ho j h)

/-- On finite values the product of a sum is the sum of the products. -/
theorem mm_add {A B : Act} {w : Wt n} (hA : ∀ i k, Fine (A i k)) (hB : ∀ i k, Fine (B i k)) (hw : ∀ k h, Fine (w k h))
    (i : Fin 128) (h : Fin n) : mm A w i h + mm B w i h = mm (fun i k => A i k + B i k) w i h := by
  unfold mm
  rw [← Finset.sum_add_distrib]
  exact Finset.sum_congr rfl fun k _ => (Fine.distrib (hA i k) (hB i k) (hw k h)).symm

/-! ## The eight column blocks -/

/-- Column `h` of block `c`. -/
def col (c : Fin 8) (h : Fin 256) : Fin 2048 := ⟨c.val * 256 + h.val, by omega⟩
/-- Block `c` of the columns of a weight. -/
def cols (c : Fin 8) (w : Wt 2048) : Wt 256 := fun k h => w k (col c h)

/-- A sum over all columns is the sum over the blocks of the sums over their columns. -/
theorem sum_cols (f : Fin 2048 → EReal) : ∑ H : Fin 2048, f H = ∑ c : Fin 8, ∑ h : Fin 256, f (col c h) := by
  rw [← Fintype.sum_prod_type' fun (c : Fin 8) (h : Fin 256) => f (col c h),
    ← Equiv.sum_comp (finProdFinEquiv : Fin 8 × Fin 256 ≃ Fin (8 * 256)) fun H : Fin (8 * 256) => f H]
  refine Finset.sum_congr rfl fun p _ => congrArg f (Fin.ext ?_)
  show p.2.val + 256 * p.1.val = p.1.val * 256 + p.2.val
  omega

/-- The layer on all columns is the sum of the layers on the blocks. -/
theorem part_cols (X : Act) (wi wo : Wt 2048) (i j : Fin 128) :
    part X wi wo i j = ∑ c : Fin 8, part X (cols c wi) (cols c wo) i j :=
  sum_cols fun H => max (mm X wi i H) 0 * wo j H

/-! ## The six weights of a stack -/

/-- Row `k` of weight `l` of a stack of six. -/
def row (l : Fin 6) (k : Fin 128) : Fin 768 := ⟨128 * l.val + k.val, by omega⟩
/-- Weight `l` of the stack. -/
def rows (l : Fin 6) (w : Fin 768 → Fin n → EReal) : Wt n := fun k h => w (row l k) h

/-- The three layers, each fed the one before. -/
def net (X : Act) (W : Fin 768 → Fin n → EReal) : Act :=
  part (part (part X (rows 0 W) (rows 3 W)) (rows 1 W) (rows 4 W)) (rows 2 W) (rows 5 W)

end Cert.Value
-- ==== Proof.Value.Block.lean ====
/-
What one device computes at an index: the entries it loads, its partial of each layer, and the sums it forms from its
peers' blocks.
-/
module

public import proofs.«01_k».proof.Proof.Ideal.Sched
public import proofs.«01_k».proof.Proof.Value.Layer
public import Idealize.ShloMosaic.Lib.MatmulPlain
public import Idealize.ShloMosaic.Lib.Pipeline.Value
public import Idealize.ShloMosaic.Lib.ValueIdx

@[expose] public section

noncomputable section

namespace Cert.Value

open Cert.KernelIdeal Cert.KernelIdeal.Gen Cert.KernelIdeal.Run
open Idealize.ShloMosaic Idealize.ShloMosaic.TcCoe Idealize.ShloMosaic.ValueIdx
open scoped BigOperators

/-! ## The pieces of the computation -/

/-- A vector of 128 rows as a function of its two indices. -/
def fn2 {n : ℕ} {φ : FTy} (v : FVec Ideal ⟨2, ![128, n]⟩ φ) : Wt n := fun i j => v (ix2 i j)

/-- The first product of a layer, from a zero accumulator. -/
theorem mm_apply (x : FVec Ideal S128x128 .bf16) (w : FVec Ideal S128x256 .bf16) (i : Fin 128) (h : Fin 256) :
    matmul dot_S128x128_S128x256_S128x256_1_0_0_1_n_n none x w (constant S128x256 .f32 0x00000000#32) (ix2 i h)
      = mm (fn2 x) (fn2 w) i h := by
  refine (Ideal.matmul_plain_apply (M := 128) (K := 128) (N := 256) none x w _ i h).trans ?_
  show Ideal.ofBits .f32 0x00000000#32 + _ = _
  rw [Ideal.ofBits_zero_f32, zero_add]
  rfl

/-- The clamp and the second product, from a zero accumulator. -/
theorem out_apply (H : FVec Ideal S128x256 .f32) (w : FVec Ideal S128x256 .bf16) (i j : Fin 128) :
    matmul dot_S128x256_S128x256_S128x128_1_1_0_0_n_n none
        (truncf .bf16 (maximumf H (broadcast S128x256 (Scalar.ofBits .f32 0x00000000#32))) bitsLt_bf16_f32) w
        (constant S128x128 .f32 0x00000000#32) (ix2 i j)
      = out (fn2 H) (fn2 w) i j := by
  refine (Ideal.matmul_transposedRhs_apply (M := 128) (K := 256) (N := 128) none _ w _ i j).trans ?_
  show Ideal.ofBits .f32 0x00000000#32 + _ = _
  rw [Ideal.ofBits_zero_f32, zero_add]
  refine Finset.sum_congr rfl fun h _ => ?_
  show max (H (ix2 i h)) (Ideal.ofBits .f32 0x00000000#32) * _ = _
  rw [Ideal.ofBits_zero_f32]
  rfl

/-- A block as sent: the rounded partial with a leading axis of one. -/
def sent (v : FVec Ideal S128x128 .f32) : FVec Ideal S1x128x128 .bf16 :=
  shapeCast S1x128x128 (truncf .bf16 v bitsLt_bf16_f32) shapeCasts_S128x128_S1x128x128
/-- A block as received is the partial that was sent. -/
theorem sent_back (v : FVec Ideal S128x128 .f32) :
    shapeCast S128x128 (sent v) shapeCasts_S1x128x128_S128x128 = truncf .bf16 v bitsLt_bf16_f32 :=
  shapeCast_shapeCast _ _ _

variable (m : (ℓ : Loc nD τ sig) → Buf (Elt Ideal) ℓ)

/-! ## What a device loads -/

/-- The input and the stacked weights of device `c`, by index. -/
def xin (c : Dev nD) : Act := fun i k => m ((c : Thread nD τ).loc main_arg0) (ix2 i k)
def win (c : Dev nD) : Fin 768 → Fin 256 → EReal := fun r h => m ((c : Thread nD τ).loc main_arg1) (ix2 r h)

theorem xs_eq (c : Dev nD) (i k : Fin 128) : xs m c (ix2 i k) = xin m c i k := by
  unfold xs iblk xin
  refine congrArg (m ((c : Thread nD τ).loc main_arg0)) (Shape.idx_ext₂ ?_ ?_)
  · show 0 + 1 * i.val = i.val; omega
  · show 0 + 1 * k.val = k.val; omega
theorem ws_eq (c : Dev nD) (r : Fin 768) (h : Fin 256) : ws m c (ix2 r h) = win m c r h := by
  unfold ws iblk win
  refine congrArg (m ((c : Thread nD τ).loc main_arg1)) (Shape.idx_ext₂ ?_ ?_)
  · show 0 + 1 * r.val = r.val; omega
  · show 0 + 1 * h.val = h.val; omega

theorem xv_eq (c : Dev nD) : fn2 (φ := .bf16) (xv m c) = xin m c := by
  funext i k
  refine (congrArg (xs m c) (Shape.idx_ext₂ (y := ix2 i k) ?_ ?_)).trans (xs_eq m c i k)
  · show 0 + 1 * i.val = i.val; omega
  · show 0 + 1 * k.val = k.val; omega
/-- The weight loaded from row `128 l`. -/
theorem wv_eq (c : Dev nD) (l : Fin 6) (r : ℕ) (hr : r = 128 * l.val) (hb) :
    fn2 (φ := .bf16) (wv m c r hb) = rows l (win m c) := by
  subst hr
  funext k h
  refine (congrArg (ws m c) (Shape.idx_ext₂ (y := ix2 (row l k) h) ?_ ?_)).trans (ws_eq m c (row l k) h)
  · show 128 * l.val + 1 * k.val = 128 * l.val + k.val; omega
  · show 0 + 1 * h.val = h.val; omega

/-! ## The sums of blocks -/

section Sums
variable (p : FVec Ideal S128x128 .f32) (v0 v1 v2 : FVec Ideal S128x128 .f32)

theorem pay3_eq : k0_pay3 p (sent v0) = addf p v0 := by
  unfold k0_pay3; dsimp only; rw [sent_back]; rfl
theorem pay4_eq : k0_pay4 p (sent v0) (sent v1) = addf (addf p v0) v1 := by
  unfold k0_pay4; dsimp only; rw [sent_back, sent_back]; rfl
theorem pay5_eq : k0_pay5 p (sent v0) (sent v1) (sent v2) = addf (addf (addf p v0) v1) v2 := by
  unfold k0_pay5; dsimp only; rw [sent_back, sent_back, sent_back]; rfl

end Sums

/-- A layer with the far block's product added apart: the clamped sum of two products, times the second weight. -/
theorem pay6_apply (near : FVec Ideal S128x128 .f32) (w : FVec Ideal S128x256 .bf16) (far : FVec Ideal S128x128 .f32)
    (wo : FVec Ideal S128x256 .bf16) (i j : Fin 128) :
    k0_pay6 (F := Ideal) near w (sent far) w wo (ix2 i j) = out (fun i h => mm (fn2 near) (fn2 w) i h + mm (fn2 far) (fn2 w) i h) (fn2 wo) i j := by
  unfold k0_pay6
  rw [shapeCast_self, shapeCast_self, sent_back, out_apply]
  refine congrFun (congrFun (congrArg (fun H => out H (fn2 wo)) (funext fun i => funext fun h => ?_)) i) j
  exact congrArg₂ (· + ·) (mm_apply _ w i h) (mm_apply _ w i h)

/-- The first layer. -/
theorem pay1_apply (x : FVec Ideal S128x128 .bf16) (w wo : FVec Ideal S128x256 .bf16) (i j : Fin 128) :
    k0_pay1 (F := Ideal) x w wo (ix2 i j) = part (fn2 x) (fn2 w) (fn2 wo) i j := by
  unfold k0_pay1
  rw [shapeCast_self, shapeCast_self, shapeCast_self, out_apply]
  exact congrFun (congrFun (congrArg (fun H => out H (fn2 wo)) (funext fun i => funext fun h => mm_apply x w i h)) i) j

end Cert.Value
-- ==== Proof.Value.Devices.lean ====
/-
What the eight devices hold after each layer: the sum over all devices of their partials, whichever order a device adds
its peers' blocks in, and hence the three layers of the whole network.
-/
module

public import proofs.«01_k».proof.Proof.Value.Block

@[expose] public section

noncomputable section

namespace Cert.Value

open Cert.KernelIdeal Cert.KernelIdeal.Gen Cert.KernelIdeal.Run
open Idealize.ShloMosaic Idealize.ShloMosaic.TcCoe Idealize.ShloMosaic.ValueIdx
open scoped BigOperators

/-- A device and its seven peers are all the devices. -/
theorem all_devices (c : Dev nD) : (Finset.univ : Finset (Dev nD)).val
    = {c, peer 0 c, peer 2 c, peer 3 c, peer 1 c, peer 4 c, peer 6 c, peer 5 c} := by
  revert c; decide

/-- So the own value and the peers' add up to the sum over all devices. -/
theorem sum_peers (f : Dev nD → EReal) (c : Dev nD) :
    f c + f (peer 0 c) + f (peer 2 c) + f (peer 3 c) + f (peer 1 c) + f (peer 4 c) + f (peer 6 c) + f (peer 5 c)
      = ∑ d, f d := by
  unfold Finset.sum
  rw [all_devices c]
  simp only [Multiset.insert_eq_cons, Multiset.map_cons, Multiset.map_singleton, Multiset.sum_cons, Multiset.sum_singleton,
    add_assoc]

variable (m : (ℓ : Loc nD τ sig) → Buf (Elt Ideal) ℓ)

/-- Every input and every weight but the last output weight is finite on every device. -/
structure AllFine : Prop where
  x : ∀ c i k, Fine (xin m c i k)
  w : ∀ c (l : Fin 6), l.val < 5 → ∀ k h, Fine (rows l (win m c) k h)

/-- The partial of a layer on device `c`, of activations `X`. -/
def devPart (X : Act) (li lo : Fin 6) (c : Dev nD) : Act := part X (rows li (win m c)) (rows lo (win m c))
/-- The sum of the partials of a layer. -/
def devSum (P : Dev nD → Act) : Act := fun i j => ∑ d, P d i j

/-- The partials of the three layers. -/
def P0 (c : Dev nD) : Act := devPart m (xin m c) 0 3 c
def P1 (c : Dev nD) : Act := devPart m (devSum (P0 m)) 1 4 c
def P2 (c : Dev nD) : Act := devPart m (devSum (P1 m)) 2 5 c

variable {m}

theorem devSum_fine {P : Dev nD → Act} (h : ∀ c i j, Fine (P c i j)) (i j : Fin 128) : Fine (devSum P i j) :=
  Fine.sum _ _ fun d => h d i j
theorem P0_fine (H : AllFine m) (c : Dev nD) (i j : Fin 128) : Fine (P0 m c i j) :=
  part_fine (H.x c) (H.w c 0 (by decide)) (H.w c 3 (by decide)) i j
theorem P1_fine (H : AllFine m) (c : Dev nD) (i j : Fin 128) : Fine (P1 m c i j) :=
  part_fine (devSum_fine (P0_fine H)) (H.w c 1 (by decide)) (H.w c 4 (by decide)) i j

/-- The own partial and the peers' blocks but the far one, added in the order the device adds them; with the far one
they make the sum over all devices. -/
def nearOf (V : Dev nD → FVec Ideal S128x128 .f32) (c : Dev nD) : FVec Ideal S128x128 .f32 :=
  addf (addf (addf (addf (addf (addf (V c) (V (peer 0 c))) (V (peer 2 c))) (V (peer 3 c))) (V (peer 1 c))) (V (peer 4 c)))
    (V (peer 6 c))

theorem near_far {V : Dev nD → FVec Ideal S128x128 .f32} {P : Dev nD → Act} (h : ∀ c, fn2 (V c) = P c) (c : Dev nD) (i j : Fin 128) :
    fn2 (nearOf V c) i j + fn2 (V (peer 5 c)) i j = devSum P i j := by
  have e : ∀ d, P d i j = fn2 (V d) i j := fun d => (congrFun (congrFun (h d) i) j).symm
  exact (sum_peers (fun d => fn2 (V d) i j) c).trans (Finset.sum_congr rfl fun d _ => (e d).symm)

/-- A layer whose near sum and far block are multiplied apart is the layer of the sum over all devices. -/
theorem layer_eq {V : Dev nD → FVec Ideal S128x128 .f32} {P : Dev nD → Act} (h : ∀ c, fn2 (V c) = P c)
    (hP : ∀ c i j, Fine (P c i j)) (c : Dev nD) (w wo : FVec Ideal S128x256 .bf16) (hw : ∀ k h, Fine (fn2 w k h)) :
    fn2 (k0_pay6 (F := Ideal) (nearOf V c) w (sent (V (peer 5 c))) w wo) = part (devSum P) (fn2 w) (fn2 wo) := by
  have hV : ∀ c i j, Fine (fn2 (V c) i j) := fun c i j => by rw [h c]; exact hP c i j
  funext i j
  refine (pay6_apply _ _ _ _ i j).trans ?_
  refine congrFun (congrFun (congrArg (fun H => out H (fn2 wo)) (funext fun i => funext fun h' => ?_)) i) j
  refine (mm_add (fun i k => ?_) (hV (peer 5 c)) hw i h').trans ?_
  · exact ((((((hV c i k).add (hV _ i k)).add (hV _ i k)).add (hV _ i k)).add (hV _ i k)).add (hV _ i k)).add (hV _ i k)
  · exact congrFun (congrFun (congrArg (fun X => mm X (fn2 w)) (funext fun i => funext fun k => near_far h c i k)) i) h'

variable (m)

/-- The partial of the first layer. -/
theorem part0_eq (c : Dev nD) : fn2 (part0 m c) = P0 m c := by
  funext i j
  unfold P0 devPart part0
  rw [← xv_eq m c, ← wv_eq m c 0 0 rfl inb_S768x256_S128x256_0_0, ← wv_eq m c 3 384 rfl inb_S768x256_S128x256_384_0]
  exact pay1_apply _ _ _ i j

theorem blk0_eq (c : Dev nD) : blk0 m c = sent (part0 m c) := rfl
theorem blk1_eq (c : Dev nD) : blk1 m c = sent (part1 m c) := rfl
theorem blk2_eq (c : Dev nD) : blk2 m c = sent (part2 m c) := rfl

theorem near0_eq (c : Dev nD) : near0 m c = nearOf (part0 m) c := by
  unfold near0
  simp only [blk0_eq]
  rw [pay3_eq, pay4_eq, pay5_eq]
  rfl

variable {m}

/-- The partial of the second layer. -/
theorem part1_eq (H : AllFine m) (c : Dev nD) : fn2 (part1 m c) = P1 m c := by
  unfold part1
  rw [near0_eq, blk0_eq]
  refine (layer_eq (part0_eq m) (P0_fine H) c _ _ fun k h => ?_).trans ?_
  · rw [wv_eq m c 1 128 rfl]; exact H.w c 1 (by decide) k h
  · rw [wv_eq m c 1 128 rfl, wv_eq m c 4 512 rfl]; rfl

/-- The partial of the third layer. -/
theorem part2_eq (H : AllFine m) (c : Dev nD) : fn2 (part2 m c) = P2 m c := by
  have e : part2 m c = k0_pay6 (nearOf (part1 m) c) (wv m c 256 inb_S768x256_S128x256_256_0) (sent (part1 m (peer 5 c)))
      (wv m c 256 inb_S768x256_S128x256_256_0) (wv m c 640 inb_S768x256_S128x256_640_0) := by
    have e1 : near1 m c = addf (addf (addf (addf (addf (part1 m c) (part1 m (peer 0 c))) (part1 m (peer 2 c))) (part1 m (peer 3 c)))
        (part1 m (peer 1 c))) (part1 m (peer 4 c)) := by
      unfold near1
      simp only [blk1_eq]
      have p8 : ∀ p v : FVec Ideal S128x128 .f32, k0_pay8 p (sent v) = addf p v := pay3_eq
      have p9 : ∀ p v v' : FVec Ideal S128x128 .f32, k0_pay9 p (sent v) (sent v') = addf (addf p v) v' := pay4_eq
      have p10 : ∀ p v v' : FVec Ideal S128x128 .f32, k0_pay10 p (sent v) (sent v') = addf (addf p v) v' := pay4_eq
      rw [p8, p9, p10]
    unfold part2
    rw [e1, blk1_eq, blk1_eq]
    have p11 : ∀ (p v f : FVec Ideal S128x128 .f32) (w w' wo : FVec Ideal S128x256 .bf16),
        k0_pay11 p (sent v) w (sent f) w' wo = k0_pay6 (k0_pay3 p (sent v)) w (sent f) w' wo := fun _ _ _ _ _ _ => rfl
    rw [p11, pay3_eq]
    rfl
  rw [e]
  refine (layer_eq (part1_eq H) (P1_fine H) c _ _ fun k h => ?_).trans ?_
  · rw [wv_eq m c 2 256 rfl]; exact H.w c 2 (by decide) k h
  · rw [wv_eq m c 2 256 rfl, wv_eq m c 5 640 rfl]; rfl

/-- The result of every device is the sum of the partials of the third layer. -/
theorem resv_eq (H : AllFine m) (c : Dev nD) : fn2 (resv m c) = devSum (P2 m) := by
  have e : resv m c = addf (nearOf (part2 m) c) (part2 m (peer 5 c)) := by
    unfold resv total
    simp only [blk2_eq]
    have p13 : ∀ p v : FVec Ideal S128x128 .f32, k0_pay13 p (sent v) = addf p v := pay3_eq
    have p14 : ∀ p v v' : FVec Ideal S128x128 .f32, k0_pay14 p (sent v) (sent v') = addf (addf p v) v' := pay4_eq
    have p15 : ∀ p v v' : FVec Ideal S128x128 .f32, k0_pay15 p (sent v) (sent v') = addf (addf p v) v' := pay4_eq
    have p16 : ∀ p v v' : FVec Ideal S128x128 .f32, k0_pay16 p (sent v) (sent v') = addf (addf p v) v' := pay4_eq
    rw [p13, p14, p15, p16]
    exact shapeCast_self _ _
  rw [e]
  funext i j
  exact near_far (part2_eq H) c i j

/-- When the devices hold one input `X` and the column blocks of one stack `W`, every device's result is the three
layers of `X` under `W`. -/
theorem resv_net (H : AllFine m) {X : Act} {W : Fin 768 → Fin 2048 → EReal} (hX : ∀ c, xin m c = X)
    (hW : ∀ (c : Dev nD) r h, win m c r h = W r (col c h)) (c : Dev nD) : fn2 (resv m c) = net X W := by
  have hr : ∀ (d : Dev nD) l, rows l (win m d) = cols d (rows l W) := fun d l => funext fun k => funext fun h => hW d (row l k) h
  have hs : ∀ (Y : Act) (li lo : Fin 6), devSum (fun d => devPart m Y li lo d) = part Y (rows li W) (rows lo W) := fun Y li lo => by
    funext i j
    rw [part_cols]
    refine Finset.sum_congr rfl fun d _ => ?_
    show part Y (rows li (win m d)) (rows lo (win m d)) i j = _
    rw [hr, hr]
  have h0 : devSum (P0 m) = part X (rows 0 W) (rows 3 W) := by
    rw [← hs X 0 3]; unfold P0; exact congrArg devSum (funext fun d => by rw [hX d])
  have h1 : devSum (P1 m) = part (part X (rows 0 W) (rows 3 W)) (rows 1 W) (rows 4 W) := by
    rw [← h0]; exact hs _ 1 4
  rw [resv_eq H c]
  unfold net
  rw [← h1]
  exact hs _ 2 5

end Cert.Value
-- ==== Proof.Value.Reference.lean ====
/-
What the reference computes: each of its layers read at an index, and its result as the three layers of its input under
its stacked weights.
-/
module

public import proofs.«01_k».proof.Proof.Gen.ReferenceIdeal
public import proofs.«01_k».proof.Proof.Gen.ReferenceIdeal.Run
public import proofs.«01_k».proof.Proof.Value.Layer
public import Idealize.ShloMosaic.Lib.StackMember
public import Idealize.ShloMosaic.Lib.Pipeline.Value
public import Idealize.ShloMosaic.Lib.IdealHost

@[expose] public section

noncomputable section

namespace Cert.Value.Ref

open Cert.ReferenceIdeal Cert.ReferenceIdeal.Gen
open Idealize.ShloMosaic Idealize.ShloMosaic.TcCoe Idealize.ShloMosaic.ValueIdx Idealize.SL.Sem
open scoped BigOperators

/-- A vector of 128 rows as a function of its two indices. -/
def fn2 {n : ℕ} {φ : FTy} (v : FVec Ideal ⟨2, ![128, n]⟩ φ) : Wt n := fun i j => v (ix2 i j)

/-- The product with the input weight. -/
theorem mm_apply (x : FVec Ideal S128x128 .f32) (w : FVec Ideal S128x2048 .f32) (i : Fin 128) (h : Fin 2048) :
    Host.dotGeneral (F := Ideal) dot_S128x128_S128x2048_S128x2048_1_0_0_1_n_n none x w (ix2 i h) = mm (fn2 x) (fn2 w) i h :=
  StackMember.dotGeneral_plain_apply (m := 128) (k := 128) (n := 2048) none x w i h

/-- The product with the output weight. -/
theorem out_apply (H : FVec Ideal S128x2048 .f32) (w : FVec Ideal S2048x128 .f32) (i j : Fin 128) :
    Host.dotGeneral (F := Ideal) dot_S128x2048_S2048x128_S128x128_1_0_0_1_n_n none H w (ix2 i j)
      = ∑ h : Fin 2048, H (ix2 i h) * w (ix2 h j) :=
  StackMember.dotGeneral_plain_apply (m := 128) (k := 2048) (n := 128) none H w i j

/-- One layer as the reference states it. -/
def layer (x : FVec Ideal S128x128 .bf16) (wi wo : FVec Ideal S128x2048 .bf16) : FVec Ideal S128x128 .bf16 :=
  truncf .bf16 (Host.dotGeneral dot_S128x2048_S2048x128_S128x128_1_0_0_1_n_n none
    (extf .f32 (maximumf (truncf .bf16 (Host.dotGeneral dot_S128x128_S128x2048_S128x2048_1_0_0_1_n_n none
        (extf .f32 x bitsLt_bf16_f32) (extf .f32 wi bitsLt_bf16_f32)) bitsLt_bf16_f32)
      (broadcastInDim S128x2048 ![] bcast_S_S128x2048 (constant S_ .bf16 0x0000#16))) bitsLt_bf16_f32)
    (extf .f32 (transpose S2048x128 [1, 0] wo transposes_S128x2048_S2048x128_1_0) bitsLt_bf16_f32)) bitsLt_bf16_f32

theorem layer_eq (x : FVec Ideal S128x128 .bf16) (wi wo : FVec Ideal S128x2048 .bf16) :
    fn2 (layer x wi wo) = part (fn2 x) (fn2 wi) (fn2 wo) := by
  funext i j
  refine (out_apply _ _ i j).trans ?_
  unfold part out
  refine Finset.sum_congr rfl fun h _ => ?_
  refine congrArg₂ (· * ·) ?_ ?_
  · refine congrArg₂ max (mm_apply _ _ i h) ?_
    rw [broadcastInDim_scalar_apply]
    exact Ideal.ofBits_zero_bf16
  · exact transpose_apply [1, 0] wo transposes_S128x2048_S2048x128_1_0 (ix2 h j) (ix2 j h)
      (fun b => match b with | ⟨0, _⟩ => rfl | ⟨1, _⟩ => rfl)

/-- The stacked weights by index. -/
def stack (w : FVec Ideal S768x2048 .bf16) : Fin 768 → Fin 2048 → EReal := fun r h => w (ix2 r h)

/-- Rows `128 l` on are weight `l`. -/
theorem slice_eq (w : FVec Ideal S768x2048 .bf16) (l : Fin 6) (r : ℕ) (hr : r = 128 * l.val) (hs) :
    fn2 (extractStridedSlice S128x2048 ![r, 0] w hs) = rows l (stack w) := by
  subst hr
  funext k h
  exact extractStridedSlice_apply _ w hs (ix2 k h) (ix2 (row l k) h)
    (fun a => match a with | ⟨0, _⟩ => rfl | ⟨1, _⟩ => (Nat.zero_add _).symm)

/-- The reference's result as a term of its arguments. -/
def result (x : FVec Ideal S128x128 .bf16) (w : FVec Ideal S768x2048 .bf16) : FVec Ideal S128x128 .f32 :=
  extf .f32 (layer (layer (layer x (extractStridedSlice S128x2048 ![0, 0] w slices_S768x2048_S128x2048_0_0)
        (extractStridedSlice S128x2048 ![384, 0] w slices_S768x2048_S128x2048_384_0))
      (extractStridedSlice S128x2048 ![128, 0] w slices_S768x2048_S128x2048_128_0)
      (extractStridedSlice S128x2048 ![512, 0] w slices_S768x2048_S128x2048_512_0))
    (extractStridedSlice S128x2048 ![256, 0] w slices_S768x2048_S128x2048_256_0)
    (extractStridedSlice S128x2048 ![640, 0] w slices_S768x2048_S128x2048_640_0)) bitsLt_bf16_f32

/-- It is the three layers of the input under the stacked weights. -/
theorem result_eq (x : FVec Ideal S128x128 .bf16) (w : FVec Ideal S768x2048 .bf16) :
    fn2 (result x w) = net (fn2 x) (stack w) := by
  show fn2 (layer _ _ _) = _
  rw [layer_eq, layer_eq, layer_eq, slice_eq w 0 0 rfl, slice_eq w 1 128 rfl, slice_eq w 2 256 rfl, slice_eq w 3 384 rfl,
    slice_eq w 4 512 rfl, slice_eq w 5 640 rfl]
  rfl

/-- Every run of the reference ends with that result, and with its arguments as they were. -/
theorem run_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v39) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1, (h c).2⟩) (Cert.ReferenceIdeal.Value.run (F := Ideal) m g)

end Cert.Value.Ref
-- ==== Proof.Value.Finite.lean ====
/-
The precondition read at an index: the input and every weight but the last output weight are finite on every device.
-/
module

public import proofs.«01_k».proof.Defs
public import proofs.«01_k».proof.Proof.Gen.Pre_finite_KernelIdeal
public import proofs.«01_k».proof.Proof.Value.Devices
public import Idealize.ShloMosaic.Lib.ReduceAll
public import Idealize.ShloMosaic.Lib.IdealHost

@[expose] public section

noncomputable section

namespace Cert.Value

open Cert.KernelIdeal Cert.KernelIdeal.Gen
open Idealize.ShloMosaic Idealize.ShloMosaic.TcCoe Idealize.ShloMosaic.ValueIdx

/-- The pattern of plus infinity. -/
theorem ofBits_inf : Ideal.ofBits .bf16 0x7F80#16 = (⊤ : EReal) := by simp [Ideal.ofBits, Ideal.ieee]

/-- An entry whose absolute value compares below plus infinity is finite. -/
theorem fine_of_cmp {s : Shape} (x : FVec Ideal s .bf16) (hb : (⟨0, ![]⟩ : Shape).BroadcastsInDim s ![]) (i : s.Idx)
    (h : cmpf .olt (Host.absf x) (broadcastInDim s ![] hb (constant (F := Ideal) ⟨0, ![]⟩ .bf16 0x7F80#16)) i = 1#1) : Fine (x i) := by
  refine Fine.of_abs ?_
  rw [cmpf_apply, broadcastInDim_scalar_apply] at h
  change BitVec.ofBool (decide (max (x i) (-(x i)) < Ideal.ofBits .bf16 0x7F80#16)) = 1#1 at h
  rw [ofBits_inf] at h
  by_contra hn
  rw [decide_eq_false hn] at h
  exact absurd h (by decide)

instance : Subsingleton (Shape.Idx ⟨0, ![]⟩) := ⟨fun _ _ => funext fun a => a.elim0⟩

variable {m : (ℓ : Loc nD τ sig) → Buf (Elt Ideal) ℓ}

/-- The precondition makes the input and the weights of the first five parts finite. -/
theorem allFine (h : Cert.Pre_KernelIdeal_finite_KernelIdeal m) : AllFine m := by
  have hc : ∀ c : Dev nD, _ := fun c => IntOp.andi_eq_one.1 (congrFun (h c) ix0)
  refine ⟨fun c i k => ?_, fun c l hl k h' => ?_⟩
  · exact fine_of_cmp _ _ (ix2 i k) (Host.reduce_andi_all _ _ _ _ _ (hc c).1 (ix2 i k))
  · have hr : 128 * l.val + k.val < 640 := by omega
    have e := fine_of_cmp _ _ _ (Host.reduce_andi_all _ _ _ _ _ (hc c).2 (ix2 (⟨128 * l.val + k.val, hr⟩ : Fin 640) h'))
    refine (congrArg Fine ?_).mp e
    refine extractStridedSlice_apply _ (m ((c : Thread nD τ).loc main_arg1)) _ _ (ix2 (row l k) h') fun a => ?_
    match a with
    | ⟨0, _⟩ => exact (Nat.zero_add _).symm
    | ⟨1, _⟩ => exact (Nat.zero_add _).symm

end Cert.Value
-- ==== Proof.lean ====
/-
The claims, assembled: the runs of the kernel and of the reference, and the equality of what they compute.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Ideal.Launch
public import proofs.«01_k».proof.Proof.Value.Devices
public import proofs.«01_k».proof.Proof.Value.Reference
public import proofs.«01_k».proof.Proof.Value.Finite

@[expose] public section

noncomputable section

namespace Cert.Proof

open Idealize.ShloMosaic Idealize.SL.Sem

/-- The kernel's table of bodies is the idealized kernel's at the same floats. -/
theorem defs₀_same : Cert.Kernel.defs₀ (F := Bits) = Cert.KernelIdeal.defs₀ (F := Bits) := by
  unfold Cert.Kernel.defs₀ Cert.KernelIdeal.defs₀
  congr 1
  funext l a
  match l with
  | 0 => rfl
/-- So are the full tables, with the pipeline's own bodies. -/
theorem defs_same : Cert.Kernel.defs (F := Bits) = Cert.KernelIdeal.defs (F := Bits) :=
  congrArg (Pipeline.defs Cert.KernelIdeal.pcfgs) defs₀_same
/-- The two programs are the same term at the same floats. -/
theorem main_same : Cert.Kernel.main (F := Bits) = Cert.KernelIdeal.main (F := Bits) := rfl

/-- The kernel as printed runs, leaves its arguments and ends with every counter at zero. -/
theorem frame_kernel : Cert.quiescent_Kernel := fun m g _ => by
  rw [defs_same, main_same]
  exact (θ_run Cert.KernelIdeal.defs _ _).mono (fun r h => ⟨fun c => (h.1 c).2, h.2⟩) (Cert.KernelIdeal.Run.run_main (F := Bits) m g)

/-- So does the idealized kernel, from any memory. -/
theorem frame_kernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun r h => ⟨fun c => (h.1 c).2, h.2⟩) (Cert.KernelIdeal.Run.run_main (F := Ideal) m g)

/-- So does the idealized reference. -/
theorem frame_referenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Under the precondition every device's result is the reference's: both are the three layers of the input under the
stacked weights. -/
theorem values : Cert.algebraic_KernelIdeal_ReferenceIdeal_pre_finite_KernelIdeal := by
  intro m g m' g' hpre hagree
  refine ⟨Cert.Value.Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (Cert.KernelIdeal.Run.run_main (F := Ideal) m g)
    have e := Cert.Value.resv_net (Cert.Value.allFine hpre)
      (X := Cert.Value.Ref.fn2 (φ := .bf16) (m' (((0 : Dev Cert.ReferenceIdeal.nD).tc : Thread Cert.ReferenceIdeal.nD Cert.ReferenceIdeal.τ).loc Cert.ReferenceIdeal.main_arg0)))
      (W := Cert.Value.Ref.stack (m' (((0 : Dev Cert.ReferenceIdeal.nD).tc : Thread Cert.ReferenceIdeal.nD Cert.ReferenceIdeal.τ).loc Cert.ReferenceIdeal.main_arg1)))
      (fun d => funext fun i => funext fun k => congrFun (hagree d).1 (ValueIdx.ix2 i k))
      (fun d r h => (congrFun (hagree d).2 (ValueIdx.ix2 r h)).trans
        (congrArg (m' (((0 : Dev Cert.ReferenceIdeal.nD).tc : Thread Cert.ReferenceIdeal.nD Cert.ReferenceIdeal.τ).loc Cert.ReferenceIdeal.main_arg1))
          (Shape.idx_ext₂ rfl rfl))) c
    have e' := e.trans (Cert.Value.Ref.result_eq _ _).symm
    funext i
    rw [ValueIdx.eq_ix2 i]
    exact congrFun (congrFun e' (i 0)) (i 1)
  · exact (θ_run Cert.ReferenceIdeal.defs _ _).mono (fun r h => h 0) (Cert.Value.Ref.run_result m' g')

/-- All the claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, fun m g _ => frame_kernelIdeal m g, fun m g _ => frame_kernelIdeal m g,
    fun m g _ => frame_referenceIdeal m g, fun m g _ => frame_referenceIdeal m g, trivial, values⟩

end Cert.Proof

end
